-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sift_inputs [hPre_sift_inputs : Cert.Pre_sift_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_sift_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sift_inputs [hPre_sift_inputs : Cert.Pre_sift_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sift_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sift_inputs [hKernelIdeal : Cert.KernelIdeal.Facts] [hPre_sift_inputs : Cert.Pre_sift_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sift_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sift_inputs [hReferenceIdeal : Cert.ReferenceIdeal.Facts] [hPre_sift_inputs : Cert.Pre_sift_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sift_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sift_inputs [hKernelIdeal : Cert.KernelIdeal.Facts] [hReferenceIdeal : Cert.ReferenceIdeal.Facts] [hPre_sift_inputs : Cert.Pre_sift_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sift_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sift_inputs : Cert.Pre_sift_inputs.Facts),
    quiescent_Kernel (hKernel := hKernel)
    ∧ quiescent_KernelIdeal (hKernelIdeal := hKernelIdeal)
    ∧ quiescent_KernelIdeal_pre_sift_inputs (hKernelIdeal := hKernelIdeal) (hPre_sift_inputs := hPre_sift_inputs)
    ∧ quiescent_ReferenceIdeal (hReferenceIdeal := hReferenceIdeal)
    ∧ quiescent_ReferenceIdeal_pre_sift_inputs (hReferenceIdeal := hReferenceIdeal) (hPre_sift_inputs := hPre_sift_inputs)
    ∧ preserves_Kernel_KernelIdeal
    ∧ algebraic_KernelIdeal_ReferenceIdeal_pre_sift_inputs (hKernelIdeal := hKernelIdeal) (hReferenceIdeal := hReferenceIdeal) (hPre_sift_inputs := hPre_sift_inputs)
-- ==== Pre_sift_inputs.lean ====
abbrev S1x2x2048x2048 : Shape := ⟨4, ![1, 2, 2048, 2048]⟩
abbrev S10x2x1x1 : Shape := ⟨4, ![10, 2, 1, 1]⟩
abbrev S8x1x4x4 : Shape := ⟨4, ![8, 1, 4, 4]⟩
abbrev S1x1x1x1 : Shape := ⟨4, ![1, 1, 1, 1]⟩
abbrev S_ : Shape := ⟨0, ![]⟩
abbrev S1x1x2048x2048 : Shape := ⟨4, ![1, 1, 2048, 2048]⟩
abbrev S1x2048x2048 : Shape := ⟨3, ![1, 2048, 2048]⟩

class Facts : Prop where
  slices_S10x2x1x1_S1x1x1x1_0_0_0_0 : S10x2x1x1.Slices ![0, 0, 0, 0] S1x1x1x1
  shapeCasts_S1x1x1x1_S_ : S1x1x1x1.ShapeCasts S_
  slices_S10x2x1x1_S1x1x1x1_0_1_0_0 : S10x2x1x1.Slices ![0, 1, 0, 0] S1x1x1x1
  slices_S10x2x1x1_S1x1x1x1_1_0_0_0 : S10x2x1x1.Slices ![1, 0, 0, 0] S1x1x1x1
  slices_S10x2x1x1_S1x1x1x1_1_1_0_0 : S10x2x1x1.Slices ![1, 1, 0, 0] S1x1x1x1
  slices_S10x2x1x1_S1x1x1x1_2_0_0_0 : S10x2x1x1.Slices ![2, 0, 0, 0] S1x1x1x1
  slices_S10x2x1x1_S1x1x1x1_2_1_0_0 : S10x2x1x1.Slices ![2, 1, 0, 0] S1x1x1x1
  slices_S10x2x1x1_S1x1x1x1_3_0_0_0 : S10x2x1x1.Slices ![3, 0, 0, 0] S1x1x1x1
  slices_S10x2x1x1_S1x1x1x1_3_1_0_0 : S10x2x1x1.Slices ![3, 1, 0, 0] S1x1x1x1
  slices_S10x2x1x1_S1x1x1x1_4_0_0_0 : S10x2x1x1.Slices ![4, 0, 0, 0] S1x1x1x1
  slices_S10x2x1x1_S1x1x1x1_4_1_0_0 : S10x2x1x1.Slices ![4, 1, 0, 0] S1x1x1x1
  slices_S10x2x1x1_S1x1x1x1_5_0_0_0 : S10x2x1x1.Slices ![5, 0, 0, 0] S1x1x1x1
  slices_S10x2x1x1_S1x1x1x1_5_1_0_0 : S10x2x1x1.Slices ![5, 1, 0, 0] S1x1x1x1
  slices_S10x2x1x1_S1x1x1x1_6_0_0_0 : S10x2x1x1.Slices ![6, 0, 0, 0] S1x1x1x1
  slices_S10x2x1x1_S1x1x1x1_6_1_0_0 : S10x2x1x1.Slices ![6, 1, 0, 0] S1x1x1x1
  slices_S10x2x1x1_S1x1x1x1_7_0_0_0 : S10x2x1x1.Slices ![7, 0, 0, 0] S1x1x1x1
  slices_S10x2x1x1_S1x1x1x1_7_1_0_0 : S10x2x1x1.Slices ![7, 1, 0, 0] S1x1x1x1
  slices_S10x2x1x1_S1x1x1x1_8_0_0_0 : S10x2x1x1.Slices ![8, 0, 0, 0] S1x1x1x1
  slices_S10x2x1x1_S1x1x1x1_8_1_0_0 : S10x2x1x1.Slices ![8, 1, 0, 0] S1x1x1x1
  slices_S10x2x1x1_S1x1x1x1_9_0_0_0 : S10x2x1x1.Slices ![9, 0, 0, 0] S1x1x1x1
  slices_S10x2x1x1_S1x1x1x1_9_1_0_0 : S10x2x1x1.Slices ![9, 1, 0, 0] S1x1x1x1
  bcast_S_S8x1x4x4 : S_.BroadcastsInDim S8x1x4x4 (![] : Fin 0 → Fin S8x1x4x4.rank)
  reducesTo_S8x1x4x4_S_d0_1_2_3 : S8x1x4x4.ReducesTo [0, 1, 2, 3] S_
  h_S_ : 0 < S_.numel
  bcast_S_S1x2x2048x2048 : S_.BroadcastsInDim S1x2x2048x2048 (![] : Fin 0 → Fin S1x2x2048x2048.rank)
  reducesTo_S1x2x2048x2048_S_d0_1_2_3 : S1x2x2048x2048.ReducesTo [0, 1, 2, 3] S_
  slices_S1x2x2048x2048_S1x1x2048x2048_0_0_0_0 : S1x2x2048x2048.Slices ![0, 0, 0, 0] S1x1x2048x2048
  shapeCasts_S1x1x2048x2048_S1x2048x2048 : S1x1x2048x2048.ShapeCasts S1x2048x2048
  bcast_S_S1x2048x2048 : S_.BroadcastsInDim S1x2048x2048 (![] : Fin 0 → Fin S1x2048x2048.rank)
  slices_S1x2x2048x2048_S1x1x2048x2048_0_1_0_0 : S1x2x2048x2048.Slices ![0, 1, 0, 0] S1x1x2048x2048
  reducesTo_S1x2048x2048_S_d0_1_2 : S1x2048x2048.ReducesTo [0, 1, 2] S_

variable [Facts]

def fn_part5 {F : FTy → Type} [FloatOps F] (main_v97 : IVec S_ 1) (main_v106 : IVec S1x2048x2048 1) (main_c_10 : IVec S_ 1) : IVec S_ 1 :=
  let main_v107 : IVec S_ 1 := (fun x v => Host.reduce IntOp.andi x v reducesTo_S1x2048x2048_S_d0_1_2 h_S_) main_v106 main_c_10
  let main_v108 : IVec S_ 1 := andi main_v97 main_v107
  main_v108

def fn_part4 {F : FTy → Type} [FloatOps F] (main_arg0 : FVec F S1x2x2048x2048 .f32) (main_arg2 : FVec F S8x1x4x4 .f32) (main_v88 : IVec S_ 1) (main_cst_5 : FVec F S_ .f32) : IVec S_ 1 :=
  let main_v89 : FVec F S8x1x4x4 .f32 := broadcastInDim S8x1x4x4 ![] bcast_S_S8x1x4x4 main_cst_5
  let main_v90 : IVec S8x1x4x4 1 := cmpf .oeq main_arg2 main_v89
  let main_c : IVec S_ 1 := constantI S_ 1 1#1
  let main_v91 : IVec S_ 1 := (fun x v => Host.reduce IntOp.andi x v reducesTo_S8x1x4x4_S_d0_1_2_3 h_S_) main_v90 main_c
  let main_v92 : IVec S_ 1 := andi main_v88 main_v91
  let main_v93 : FVec F S1x2x2048x2048 .f32 := Host.absf main_arg0
  let main_cst_6 : FVec F S_ .f32 := constant S_ .f32 0x7F800000#32
  let main_v94 : FVec F S1x2x2048x2048 .f32 := broadcastInDim S1x2x2048x2048 ![] bcast_S_S1x2x2048x2048 main_cst_6
  let main_v95 : IVec S1x2x2048x2048 1 := cmpf .olt main_v93 main_v94
  let main_c_7 : IVec S_ 1 := constantI S_ 1 1#1
  let main_v96 : IVec S_ 1 := (fun x v => Host.reduce IntOp.andi x v reducesTo_S1x2x2048x2048_S_d0_1_2_3 h_S_) main_v95 main_c_7
  let main_v97 : IVec S_ 1 := andi main_v92 main_v96
  let main_v98 : FVec F S1x1x2048x2048 .f32 := (extractStridedSlice S1x1x2048x2048 ![0, 0, 0, 0] · slices_S1x2x2048x2048_S1x1x2048x2048_0_0_0_0) main_arg0
  let main_v99 : FVec F S1x2048x2048 .f32 := shapeCast S1x2048x2048 main_v98 shapeCasts_S1x1x2048x2048_S1x2048x2048
  let main_cst_8 : FVec F S_ .f32 := constant S_ .f32 0x00000000#32
  let main_v100 : FVec F S1x2048x2048 .f32 := broadcastInDim S1x2048x2048 ![] bcast_S_S1x2048x2048 main_cst_8
  let main_v101 : IVec S1x2048x2048 1 := cmpf .une main_v99 main_v100
  let main_v102 : FVec F S1x1x2048x2048 .f32 := (extractStridedSlice S1x1x2048x2048 ![0, 1, 0, 0] · slices_S1x2x2048x2048_S1x1x2048x2048_0_1_0_0) main_arg0
  let main_v103 : FVec F S1x2048x2048 .f32 := shapeCast S1x2048x2048 main_v102 shapeCasts_S1x1x2048x2048_S1x2048x2048
  let main_cst_9 : FVec F S_ .f32 := constant S_ .f32 0x00000000#32
  let main_v104 : FVec F S1x2048x2048 .f32 := broadcastInDim S1x2048x2048 ![] bcast_S_S1x2048x2048 main_cst_9
  let main_v105 : IVec S1x2048x2048 1 := cmpf .oge main_v103 main_v104
  let main_v106 : IVec S1x2048x2048 1 := ori main_v101 main_v105
  let main_c_10 : IVec S_ 1 := constantI S_ 1 1#1
  fn_part5 (F := F) main_v97 main_v106 main_c_10

def fn_part3 {F : FTy → Type} [FloatOps F] (main_arg0 : FVec F S1x2x2048x2048 .f32) (main_arg1 : FVec F S10x2x1x1 .f32) (main_arg2 : FVec F S8x1x4x4 .f32) (main_v11 : FVec F S_ .f32) (main_v68 : IVec S_ 1) (main_v69 : FVec F S1x1x1x1 .f32) : IVec S_ 1 :=
  let main_v70 : FVec F S_ .f32 := shapeCast S_ main_v69 shapeCasts_S1x1x1x1_S_
  let main_v71 : IVec S_ 1 := cmpf .oeq main_v70 main_v11
  let main_v72 : IVec S_ 1 := andi main_v68 main_v71
  let main_v73 : FVec F S1x1x1x1 .f32 := (extractStridedSlice S1x1x1x1 ![8, 0, 0, 0] · slices_S10x2x1x1_S1x1x1x1_8_0_0_0) main_arg1
  let main_v74 : FVec F S_ .f32 := shapeCast S_ main_v73 shapeCasts_S1x1x1x1_S_
  let main_cst_1 : FVec F S_ .f32 := constant S_ .f32 0x3F800000#32
  let main_v75 : IVec S_ 1 := cmpf .oeq main_v74 main_cst_1
  let main_v76 : IVec S_ 1 := andi main_v72 main_v75
  let main_v77 : FVec F S1x1x1x1 .f32 := (extractStridedSlice S1x1x1x1 ![8, 1, 0, 0] · slices_S10x2x1x1_S1x1x1x1_8_1_0_0) main_arg1
  let main_v78 : FVec F S_ .f32 := shapeCast S_ main_v77 shapeCasts_S1x1x1x1_S_
  let main_cst_2 : FVec F S_ .f32 := constant S_ .f32 0x00000000#32
  let main_v79 : IVec S_ 1 := cmpf .oeq main_v78 main_cst_2
  let main_v80 : IVec S_ 1 := andi main_v76 main_v79
  let main_v81 : FVec F S1x1x1x1 .f32 := (extractStridedSlice S1x1x1x1 ![9, 0, 0, 0] · slices_S10x2x1x1_S1x1x1x1_9_0_0_0) main_arg1
  let main_v82 : FVec F S_ .f32 := shapeCast S_ main_v81 shapeCasts_S1x1x1x1_S_
  let main_cst_3 : FVec F S_ .f32 := constant S_ .f32 0x00000000#32
  let main_v83 : IVec S_ 1 := cmpf .oeq main_v82 main_cst_3
  let main_v84 : IVec S_ 1 := andi main_v80 main_v83
  let main_v85 : FVec F S1x1x1x1 .f32 := (extractStridedSlice S1x1x1x1 ![9, 1, 0, 0] · slices_S10x2x1x1_S1x1x1x1_9_1_0_0) main_arg1
  let main_v86 : FVec F S_ .f32 := shapeCast S_ main_v85 shapeCasts_S1x1x1x1_S_
  let main_cst_4 : FVec F S_ .f32 := constant S_ .f32 0x3F800000#32
  let main_v87 : IVec S_ 1 := cmpf .oeq main_v86 main_cst_4
  let main_v88 : IVec S_ 1 := andi main_v84 main_v87
  let main_cst_5 : FVec F S_ .f32 := constant S_ .f32 0x3F800000#32
  fn_part4 (F := F) main_arg0 main_arg2 main_v88 main_cst_5

def fn_part2 {F : FTy → Type} [FloatOps F] (main_arg0 : FVec F S1x2x2048x2048 .f32) (main_arg1 : FVec F S10x2x1x1 .f32) (main_arg2 : FVec F S8x1x4x4 .f32) (main_v1 : FVec F S_ .f32) (main_v3 : FVec F S_ .f32) (main_v7 : FVec F S_ .f32) (main_v8 : FVec F S_ .f32) (main_v9 : FVec F S_ .f32) (main_v10 : FVec F S_ .f32) (main_v11 : FVec F S_ .f32) (main_v44 : IVec S_ 1) (main_v45 : FVec F S1x1x1x1 .f32) : IVec S_ 1 :=
  let main_v46 : FVec F S_ .f32 := shapeCast S_ main_v45 shapeCasts_S1x1x1x1_S_
  let main_v47 : IVec S_ 1 := cmpf .oeq main_v46 main_v7
  let main_v48 : IVec S_ 1 := andi main_v44 main_v47
  let main_v49 : FVec F S1x1x1x1 .f32 := (extractStridedSlice S1x1x1x1 ![5, 0, 0, 0] · slices_S10x2x1x1_S1x1x1x1_5_0_0_0) main_arg1
  let main_v50 : FVec F S_ .f32 := shapeCast S_ main_v49 shapeCasts_S1x1x1x1_S_
  let main_v51 : IVec S_ 1 := cmpf .oeq main_v50 main_v8
  let main_v52 : IVec S_ 1 := andi main_v48 main_v51
  let main_v53 : FVec F S1x1x1x1 .f32 := (extractStridedSlice S1x1x1x1 ![5, 1, 0, 0] · slices_S10x2x1x1_S1x1x1x1_5_1_0_0) main_arg1
  let main_v54 : FVec F S_ .f32 := shapeCast S_ main_v53 shapeCasts_S1x1x1x1_S_
  let main_v55 : IVec S_ 1 := cmpf .oeq main_v54 main_v9
  let main_v56 : IVec S_ 1 := andi main_v52 main_v55
  let main_v57 : FVec F S1x1x1x1 .f32 := (extractStridedSlice S1x1x1x1 ![6, 0, 0, 0] · slices_S10x2x1x1_S1x1x1x1_6_0_0_0) main_arg1
  let main_v58 : FVec F S_ .f32 := shapeCast S_ main_v57 shapeCasts_S1x1x1x1_S_
  let main_v59 : IVec S_ 1 := cmpf .oeq main_v58 main_v3
  let main_v60 : IVec S_ 1 := andi main_v56 main_v59
  let main_v61 : FVec F S1x1x1x1 .f32 := (extractStridedSlice S1x1x1x1 ![6, 1, 0, 0] · slices_S10x2x1x1_S1x1x1x1_6_1_0_0) main_arg1
  let main_v62 : FVec F S_ .f32 := shapeCast S_ main_v61 shapeCasts_S1x1x1x1_S_
  let main_v63 : IVec S_ 1 := cmpf .oeq main_v62 main_v10
  let main_v64 : IVec S_ 1 := andi main_v60 main_v63
  let main_v65 : FVec F S1x1x1x1 .f32 := (extractStridedSlice S1x1x1x1 ![7, 0, 0, 0] · slices_S10x2x1x1_S1x1x1x1_7_0_0_0) main_arg1
  let main_v66 : FVec F S_ .f32 := shapeCast S_ main_v65 shapeCasts_S1x1x1x1_S_
  let main_v67 : IVec S_ 1 := cmpf .oeq main_v66 main_v1
  let main_v68 : IVec S_ 1 := andi main_v64 main_v67
  let main_v69 : FVec F S1x1x1x1 .f32 := (extractStridedSlice S1x1x1x1 ![7, 1, 0, 0] · slices_S10x2x1x1_S1x1x1x1_7_1_0_0) main_arg1
  fn_part3 (F := F) main_arg0 main_arg1 main_arg2 main_v11 main_v68 main_v69

def fn_part1 {F : FTy → Type} [FloatOps F] (main_arg0 : FVec F S1x2x2048x2048 .f32) (main_arg1 : FVec F S10x2x1x1 .f32) (main_arg2 : FVec F S8x1x4x4 .f32) (main_v1 : FVec F S_ .f32) (main_v3 : FVec F S_ .f32) (main_v4 : FVec F S_ .f32) (main_v5 : FVec F S_ .f32) (main_v6 : FVec F S_ .f32) (main_v7 : FVec F S_ .f32) (main_v8 : FVec F S_ .f32) (main_v9 : FVec F S_ .f32) (main_v10 : FVec F S_ .f32) (main_v11 : FVec F S_ .f32) (main_v20 : IVec S_ 1) (main_v21 : FVec F S1x1x1x1 .f32) : IVec S_ 1 :=
  let main_v22 : FVec F S_ .f32 := shapeCast S_ main_v21 shapeCasts_S1x1x1x1_S_
  let main_v23 : IVec S_ 1 := cmpf .oeq main_v22 main_v1
  let main_v24 : IVec S_ 1 := andi main_v20 main_v23
  let main_v25 : FVec F S1x1x1x1 .f32 := (extractStridedSlice S1x1x1x1 ![2, 0, 0, 0] · slices_S10x2x1x1_S1x1x1x1_2_0_0_0) main_arg1
  let main_v26 : FVec F S_ .f32 := shapeCast S_ main_v25 shapeCasts_S1x1x1x1_S_
  let main_v27 : IVec S_ 1 := cmpf .oeq main_v26 main_v4
  let main_v28 : IVec S_ 1 := andi main_v24 main_v27
  let main_v29 : FVec F S1x1x1x1 .f32 := (extractStridedSlice S1x1x1x1 ![2, 1, 0, 0] · slices_S10x2x1x1_S1x1x1x1_2_1_0_0) main_arg1
  let main_v30 : FVec F S_ .f32 := shapeCast S_ main_v29 shapeCasts_S1x1x1x1_S_
  let main_v31 : IVec S_ 1 := cmpf .oeq main_v30 main_v1
  let main_v32 : IVec S_ 1 := andi main_v28 main_v31
  let main_v33 : FVec F S1x1x1x1 .f32 := (extractStridedSlice S1x1x1x1 ![3, 0, 0, 0] · slices_S10x2x1x1_S1x1x1x1_3_0_0_0) main_arg1
  let main_v34 : FVec F S_ .f32 := shapeCast S_ main_v33 shapeCasts_S1x1x1x1_S_
  let main_v35 : IVec S_ 1 := cmpf .oeq main_v34 main_v5
  let main_v36 : IVec S_ 1 := andi main_v32 main_v35
  let main_v37 : FVec F S1x1x1x1 .f32 := (extractStridedSlice S1x1x1x1 ![3, 1, 0, 0] · slices_S10x2x1x1_S1x1x1x1_3_1_0_0) main_arg1
  let main_v38 : FVec F S_ .f32 := shapeCast S_ main_v37 shapeCasts_S1x1x1x1_S_
  let main_v39 : IVec S_ 1 := cmpf .oeq main_v38 main_v3
  let main_v40 : IVec S_ 1 := andi main_v36 main_v39
  let main_v41 : FVec F S1x1x1x1 .f32 := (extractStridedSlice S1x1x1x1 ![4, 0, 0, 0] · slices_S10x2x1x1_S1x1x1x1_4_0_0_0) main_arg1
  let main_v42 : FVec F S_ .f32 := shapeCast S_ main_v41 shapeCasts_S1x1x1x1_S_
  let main_v43 : IVec S_ 1 := cmpf .oeq main_v42 main_v6
  let main_v44 : IVec S_ 1 := andi main_v40 main_v43
  let main_v45 : FVec F S1x1x1x1 .f32 := (extractStridedSlice S1x1x1x1 ![4, 1, 0, 0] · slices_S10x2x1x1_S1x1x1x1_4_1_0_0) main_arg1
  fn_part2 (F := F) main_arg0 main_arg1 main_arg2 main_v1 main_v3 main_v7 main_v8 main_v9 main_v10 main_v11 main_v44 main_v45

def fn {F : FTy → Type} [FloatOps F] (main_arg0 : FVec F S1x2x2048x2048 .f32) (main_arg1 : FVec F S10x2x1x1 .f32) (main_arg2 : FVec F S8x1x4x4 .f32) : IVec S_ 1 :=
  let main_v0 : FVec F S1x1x1x1 .f32 := (extractStridedSlice S1x1x1x1 ![0, 0, 0, 0] · slices_S10x2x1x1_S1x1x1x1_0_0_0_0) main_arg1
  let main_v1 : FVec F S_ .f32 := shapeCast S_ main_v0 shapeCasts_S1x1x1x1_S_
  let main_v2 : FVec F S1x1x1x1 .f32 := (extractStridedSlice S1x1x1x1 ![0, 1, 0, 0] · slices_S10x2x1x1_S1x1x1x1_0_1_0_0) main_arg1
  let main_v3 : FVec F S_ .f32 := shapeCast S_ main_v2 shapeCasts_S1x1x1x1_S_
  let main_v4 : FVec F S_ .f32 := Host.negf main_v3
  let main_v5 : FVec F S_ .f32 := Host.negf main_v1
  let main_v6 : FVec F S_ .f32 := Host.negf main_v1
  let main_v7 : FVec F S_ .f32 := Host.negf main_v3
  let main_v8 : FVec F S_ .f32 := Host.negf main_v3
  let main_v9 : FVec F S_ .f32 := Host.negf main_v1
  let main_v10 : FVec F S_ .f32 := Host.negf main_v1
  let main_v11 : FVec F S_ .f32 := Host.negf main_v3
  let main_cst : FVec F S_ .f32 := constant S_ .f32 0x00000000#32
  let main_v12 : IVec S_ 1 := cmpf .olt main_cst main_v3
  let main_v13 : IVec S_ 1 := cmpf .olt main_v3 main_v1
  let main_v14 : IVec S_ 1 := andi main_v12 main_v13
  let main_cst_0 : FVec F S_ .f32 := constant S_ .f32 0x7F800000#32
  let main_v15 : IVec S_ 1 := cmpf .olt main_v1 main_cst_0
  let main_v16 : IVec S_ 1 := andi main_v14 main_v15
  let main_v17 : FVec F S1x1x1x1 .f32 := (extractStridedSlice S1x1x1x1 ![1, 0, 0, 0] · slices_S10x2x1x1_S1x1x1x1_1_0_0_0) main_arg1
  let main_v18 : FVec F S_ .f32 := shapeCast S_ main_v17 shapeCasts_S1x1x1x1_S_
  let main_v19 : IVec S_ 1 := cmpf .oeq main_v18 main_v3
  let main_v20 : IVec S_ 1 := andi main_v16 main_v19
  let main_v21 : FVec F S1x1x1x1 .f32 := (extractStridedSlice S1x1x1x1 ![1, 1, 0, 0] · slices_S10x2x1x1_S1x1x1x1_1_1_0_0) main_arg1
  fn_part1 (F := F) main_arg0 main_arg1 main_arg2 main_v1 main_v3 main_v4 main_v5 main_v6 main_v7 main_v8 main_v9 main_v10 main_v11 main_v20 main_v21
-- ==== Kernel.lean ====
abbrev S1x2x2048x2048 : Shape := ⟨4, ![1, 2, 2048, 2048]⟩
abbrev S10x2x1x1 : Shape := ⟨4, ![10, 2, 1, 1]⟩
abbrev S8x1x4x4 : Shape := ⟨4, ![8, 1, 4, 4]⟩
abbrev S2x2048x2048 : Shape := ⟨3, ![2, 2048, 2048]⟩
abbrev S1x8x2049x2049 : Shape := ⟨4, ![1, 8, 2049, 2049]⟩
abbrev S2x8x2048 : Shape := ⟨3, ![2, 8, 2048]⟩
abbrev S2x192x2048 : Shape := ⟨3, ![2, 192, 2048]⟩
abbrev S1x8x192x2176 : Shape := ⟨4, ![1, 8, 192, 2176]⟩
abbrev S1x2x2048 : Shape := ⟨3, ![1, 2, 2048]⟩
abbrev S2x2048 : Shape := ⟨2, ![2, 2048]⟩
abbrev S1x192x2048 : Shape := ⟨3, ![1, 192, 2048]⟩
abbrev S192x2048 : Shape := ⟨2, ![192, 2048]⟩
abbrev S1x1x2048 : Shape := ⟨3, ![1, 1, 2048]⟩
abbrev S1x2048 : Shape := ⟨2, ![1, 2048]⟩
abbrev S195x2048 : Shape := ⟨2, ![195, 2048]⟩
abbrev S195x2 : Shape := ⟨2, ![195, 2]⟩
abbrev S195x2050 : Shape := ⟨2, ![195, 2050]⟩
abbrev S195x126 : Shape := ⟨2, ![195, 126]⟩
abbrev S195x2176 : Shape := ⟨2, ![195, 2176]⟩
abbrev S192x195 : Shape := ⟨2, ![192, 195]⟩
abbrev S192x2176 : Shape := ⟨2, ![192, 2176]⟩
abbrev S192x2175 : Shape := ⟨2, ![192, 2175]⟩
abbrev S192x2173 : Shape := ⟨2, ![192, 2173]⟩
abbrev S1x1x192x2173 : Shape := ⟨4, ![1, 1, 192, 2173]⟩

abbrev nBuf : Space → Nat
  | .hbm => 5
  | .vmem => 8
  | .smem => 0
  | _ => 0

abbrev bufTy : (tb : Table) → Fin (tcTables nBuf tb) → BufTy
  | .hbm, ⟨0, _⟩ => ⟨S1x2x2048x2048, .f32⟩
  | .hbm, ⟨1, _⟩ => ⟨S10x2x1x1, .f32⟩
  | .hbm, ⟨2, _⟩ => ⟨S8x1x4x4, .f32⟩
  | .hbm, ⟨3, _⟩ => ⟨S2x2048x2048, .f32⟩
  | .hbm, ⟨4, _⟩ => ⟨S1x8x2049x2049, .f32⟩
  | .local _ .vmem, ⟨0, _⟩ => ⟨S2x8x2048, .f32⟩
  | .local _ .vmem, ⟨1, _⟩ => ⟨S2x8x2048, .f32⟩
  | .local _ .vmem, ⟨2, _⟩ => ⟨S2x192x2048, .f32⟩
  | .local _ .vmem, ⟨3, _⟩ => ⟨S2x192x2048, .f32⟩
  | .local _ .vmem, ⟨4, _⟩ => ⟨S2x8x2048, .f32⟩
  | .local _ .vmem, ⟨5, _⟩ => ⟨S2x8x2048, .f32⟩
  | .local _ .vmem, ⟨6, _⟩ => ⟨S1x8x192x2176, .f32⟩
  | .local _ .vmem, ⟨7, _⟩ => ⟨S1x8x192x2176, .f32⟩
  | _, _ => ⟨S1x2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c24_i32 : BitVec 32 := 24#32
  let v0 : BitVec 32 := Scalar.muli arg0 c24_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_1 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c24_i32 : BitVec 32 := 24#32
  let v1 : BitVec 32 := Scalar.muli v0 c24_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S2x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x192x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x192x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x2x2048x2048 : Shape := ⟨4, ![1, 2, 2048, 2048]⟩
abbrev S10x2x1x1 : Shape := ⟨4, ![10, 2, 1, 1]⟩
abbrev S8x1x4x4 : Shape := ⟨4, ![8, 1, 4, 4]⟩
abbrev S10x2 : Shape := ⟨2, ![10, 2]⟩
abbrev S1x2048x2048x10 : Shape := ⟨4, ![1, 2048, 2048, 10]⟩
abbrev S1x10x2048x2048 : Shape := ⟨4, ![1, 10, 2048, 2048]⟩
abbrev S1x8x2048x2048 : Shape := ⟨4, ![1, 8, 2048, 2048]⟩
abbrev S_ : Shape := ⟨0, ![]⟩
abbrev S1x2048x2048 : Shape := ⟨3, ![1, 2048, 2048]⟩
abbrev S1x1x2048x2048 : Shape := ⟨4, ![1, 1, 2048, 2048]⟩
abbrev S1x8x1x1 : Shape := ⟨4, ![1, 8, 1, 1]⟩
abbrev S1x8x2052x2052 : Shape := ⟨4, ![1, 8, 2052, 2052]⟩
abbrev S1x8x2049x2049 : Shape := ⟨4, ![1, 8, 2049, 2049]⟩
abbrev S8x16 : Shape := ⟨2, ![8, 16]⟩
abbrev S16x8x2049x2049 : Shape := ⟨4, ![16, 8, 2049, 2049]⟩
abbrev S8x2049x2049 : Shape := ⟨3, ![8, 2049, 2049]⟩

abbrev nBuf : Space → Nat
  | .hbm => 60
  | .vmem => 0
  | .smem => 0
  | _ => 0

abbrev bufTy : (tb : Table) → Fin (tcTables nBuf tb) → BufTy
  | .hbm, ⟨0, _⟩ => ⟨S1x2x2048x2048, .f32⟩
  | .hbm, ⟨1, _⟩ => ⟨S10x2x1x1, .f32⟩
  | .hbm, ⟨2, _⟩ => ⟨S8x1x4x4, .f32⟩
  | .hbm, ⟨3, _⟩ => ⟨S10x2, .f32⟩
  | .hbm, ⟨4, _⟩ => ⟨S1x2048x2048x10, .f32⟩
  | .hbm, ⟨5, _⟩ => ⟨S1x10x2048x2048, .f32⟩
  | .hbm, ⟨6, _⟩ => ⟨S1x8x2048x2048, .f32⟩
  | .hbm, ⟨7, _⟩ => ⟨S1x2x2048x2048, .f32⟩
  | .hbm, ⟨8, _⟩ => ⟨S_, .f32⟩
  | .hbm, ⟨9, _⟩ => ⟨S1x2048x2048, .f32⟩
  | .hbm, ⟨10, _⟩ => ⟨S1x1x2048x2048, .f32⟩
  | .hbm, ⟨11, _⟩ => ⟨S1x8x2048x2048, .i32⟩
  | .hbm, ⟨12, _⟩ => ⟨S1x8x2048x2048, .f32⟩
  | .hbm, ⟨13, _⟩ => ⟨S1x8x2048x2048, .i1⟩
  | .hbm, ⟨14, _⟩ => ⟨S_, .i32⟩
  | .hbm, ⟨15, _⟩ => ⟨S_, .i32⟩
  | .hbm, ⟨16, _⟩ => ⟨S1x8x2048x2048, .i32⟩
  | .hbm, ⟨17, _⟩ => ⟨S1x8x2048x2048, .i32⟩
  | .hbm, ⟨18, _⟩ => ⟨S_, .i32⟩
  | .hbm, ⟨19, _⟩ => ⟨S1x2048x2048, .i32⟩
  | .hbm, ⟨20, _⟩ => ⟨S1x1x2048x2048, .i32⟩
  | .hbm, ⟨21, _⟩ => ⟨S1x8x1x1, .i32⟩
  | .hbm, ⟨22, _⟩ => ⟨S1x8x2048x2048, .i32⟩
  | .hbm, ⟨23, _⟩ => ⟨S1x8x2048x2048, .i32⟩
  | .hbm, ⟨24, _⟩ => ⟨S1x8x2048x2048, .i1⟩
  | .hbm, ⟨25, _⟩ => ⟨S1x8x2048x2048, .f32⟩
  | .hbm, ⟨26, _⟩ => ⟨S1x1x2048x2048, .f32⟩
  | .hbm, ⟨27, _⟩ => ⟨S1x2048x2048, .f32⟩
  | .hbm, ⟨28, _⟩ => ⟨S1x2048x2048, .f32⟩
  | .hbm, ⟨29, _⟩ => ⟨S1x1x2048x2048, .f32⟩
  | .hbm, ⟨30, _⟩ => ⟨S1x2048x2048, .f32⟩
  | .hbm, ⟨31, _⟩ => ⟨S1x2048x2048, .f32⟩
  | .hbm, ⟨32, _⟩ => ⟨S1x2048x2048, .f32⟩
  | .hbm, ⟨33, _⟩ => ⟨S1x2048x2048, .f32⟩
  | .hbm, ⟨34, _⟩ => ⟨S1x1x2048x2048, .f32⟩
  | .hbm, ⟨35, _⟩ => ⟨S1x8x2048x2048, .f32⟩
  | .hbm, ⟨36, _⟩ => ⟨S1x8x2048x2048, .f32⟩
  | .hbm, ⟨37, _⟩ => ⟨S_, .i32⟩
  | .hbm, ⟨38, _⟩ => ⟨S_, .f32⟩
  | .hbm, ⟨39, _⟩ => ⟨S1x8x2052x2052, .f32⟩
  | .hbm, ⟨40, _⟩ => ⟨S1x8x2049x2049, .f32⟩
  | .hbm, ⟨41, _⟩ => ⟨S1x8x2049x2049, .f32⟩
  | .hbm, ⟨42, _⟩ => ⟨S1x8x2049x2049, .f32⟩
  | .hbm, ⟨43, _⟩ => ⟨S1x8x2049x2049, .f32⟩
  | .hbm, ⟨44, _⟩ => ⟨S1x8x2049x2049, .f32⟩
  | .hbm, ⟨45, _⟩ => ⟨S1x8x2049x2049, .f32⟩
  | .hbm, ⟨46, _⟩ => ⟨S1x8x2049x2049, .f32⟩
  | .hbm, ⟨47, _⟩ => ⟨S1x8x2049x2049, .f32⟩
  | .hbm, ⟨48, _⟩ => ⟨S1x8x2049x2049, .f32⟩
  | .hbm, ⟨49, _⟩ => ⟨S1x8x2049x2049, .f32⟩
  | .hbm, ⟨50, _⟩ => ⟨S1x8x2049x2049, .f32⟩
  | .hbm, ⟨51, _⟩ => ⟨S1x8x2049x2049, .f32⟩
  | .hbm, ⟨52, _⟩ => ⟨S1x8x2049x2049, .f32⟩
  | .hbm, ⟨53, _⟩ => ⟨S1x8x2049x2049, .f32⟩
  | .hbm, ⟨54, _⟩ => ⟨S1x8x2049x2049, .f32⟩
  | .hbm, ⟨55, _⟩ => ⟨S1x8x2049x2049, .f32⟩
  | .hbm, ⟨56, _⟩ => ⟨S8x16, .f32⟩
  | .hbm, ⟨57, _⟩ => ⟨S16x8x2049x2049, .f32⟩
  | .hbm, ⟨58, _⟩ => ⟨S8x2049x2049, .f32⟩
  | .hbm, ⟨59, _⟩ => ⟨S1x8x2049x2049, .f32⟩
  | _, _ => ⟨S1x2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_1 : Ref sig .tc := ⟨.hbm, 37, rfl⟩
abbrev main_call2_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Proof.Block.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.KitQuiescent
public import Idealize.ShloMosaic.Lib.Tactic
public import Idealize.ShloMosaic.Lib.Pointwise
public import Idealize.ShloMosaic.Lib.Pipeline.ValueKit.Tiles

/-! What the body of the kernel leaves in its output block, as a function of the three input blocks, and the
    fact that the rows of the middle block lying below the image do not matter. -/

@[expose] public section

noncomputable section

namespace Cert.KernelIdeal.Run

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The block the body computes -/

/-- The last two rows of channel `ch` of the block above. -/
def above (ch : Fin 2) (X : Vec F S2x8x2048 .f32) : Vec F S1x2x2048 .f32 := fun x => X (ix3 ch ⟨6 + (x 1).val, by have := (x 1).isLt; change _ < 2 at this; omega⟩ (x 2))
/-- Channel `ch` of the middle block. -/
def middle (ch : Fin 2) (X : Vec F S2x192x2048 .f32) : Vec F S1x192x2048 .f32 := fun x => X (ix3 ch (x 1) (x 2))
/-- The first row of channel `ch` of the block below. -/
def below (ch : Fin 2) (X : Vec F S2x8x2048 .f32) : Vec F S1x1x2048 .f32 := fun x => X (ix3 ch 0 (x 2))

/-- The horizontal gradient on the 195 rows the block needs, padded by two columns on the left. -/
def gradX (i : grid0.Coords) (X0 : Vec F S2x8x2048 .f32) (X1 : Vec F S2x192x2048 .f32) (X2 : Vec F S2x8x2048 .f32) : FVec F S195x2176 .f32 :=
  k0_pay5 i (above 0 X0) (middle 0 X1) (below 0 X2)
/-- The vertical gradient on the 195 rows the block needs. -/
def gradY (i : grid0.Coords) (X0 : Vec F S2x8x2048 .f32) (X1 : Vec F S2x192x2048 .f32) (X2 : Vec F S2x8x2048 .f32) : FVec F S195x2048 .f32 :=
  k0_pay4 i (above 1 X0) (middle 1 X1) (below 1 X2)

/-- The eight planes the body stores, from the two gradients. -/
def stored (gy : FVec F S195x2048 .f32) (gx : FVec F S195x2176 .f32) : Fin 8 → FVec F S1x1x192x2173 .f32
  | 0 => k0_pay27 (k0_pay16 gy gx 0#32) (k0_pay24 gy gx 0#32) k0_pay25
  | 1 => k0_pay28 (k0_pay17 gy gx 0#32) (k0_pay24 gy gx 0#32) k0_pay25
  | 2 => k0_pay29 (k0_pay18 gy gx 0#32) (k0_pay24 gy gx 0#32) k0_pay25
  | 3 => k0_pay30 (k0_pay19 gy gx 0#32) (k0_pay24 gy gx 0#32) (k0_pay26 k0_pay25)
  | 4 => k0_pay31 (k0_pay20 gy gx 0#32) (k0_pay24 gy gx 0#32) (k0_pay26 k0_pay25)
  | 5 => k0_pay32 (k0_pay21 gy gx 0#32) (k0_pay24 gy gx 0#32) (k0_pay26 k0_pay25)
  | 6 => k0_pay1 (k0_pay26 k0_pay25) (k0_pay33 (k0_pay22 gy gx 0#32) (k0_pay24 gy gx 0#32))
  | 7 => k0_pay2 (k0_pay23 gy gx 0#32) (k0_pay24 gy gx 0#32) (k0_pay26 k0_pay25)

/-- The output block: the eight planes, on the first 2173 columns; the others are not written. -/
def outBlk (i : grid0.Coords) (X0 : Vec F S2x8x2048 .f32) (X1 : Vec F S2x192x2048 .f32) (X2 : Vec F S2x8x2048 .f32) : Vec F S1x8x192x2176 .f32 := fun j =>
  if h : (j 3).val < 2173 then stored (gradY i X0 X1 X2) (gradX i X0 X1 X2) (j 1) (ix4 0 0 (j 2) ⟨(j 3).val, h⟩) else FloatOps.ofBits .f32 0#32

/-! ## The rows below the image do not matter -/

/-- The row test of the body, at every grid point and row: it holds exactly on the image's rows. -/
theorem row_test : ∀ (n : Fin 11) (k : Fin 195),
    IntOp.andi
        (IntOp.cmpi CmpIPredicate.sge
          (IntOp.addi (Scalar.subi (Scalar.muli (BitVec.ofNat 32 n.val) 192#32) 2#32) (BitVec.ofNat 32 k.val)) 0#32)
        (IntOp.cmpi CmpIPredicate.slt
          (IntOp.addi (Scalar.subi (Scalar.muli (BitVec.ofNat 32 n.val) 192#32) 2#32) (BitVec.ofNat 32 k.val)) 2048#32)
      = if 2 ≤ 192 * n.val + k.val ∧ 192 * n.val + k.val < 2050 then 1#1 else 0#1 := by
  decide +kernel

/-- The select on the row number keeps the image's rows and zeroes the others. -/
theorem row_select (n k : ℕ) (hn : n < 11) (hk : k < 195) {α : Type} (x y : α) :
    Scalar.select
      (IntOp.andi
        (IntOp.cmpi CmpIPredicate.sge
          (IntOp.addi (Scalar.subi (Scalar.muli (BitVec.ofNat 32 n) 192#32) 2#32) (BitVec.ofNat 32 k)) 0#32)
        (IntOp.cmpi CmpIPredicate.slt
          (IntOp.addi (Scalar.subi (Scalar.muli (BitVec.ofNat 32 n) 192#32) 2#32) (BitVec.ofNat 32 k)) 2048#32)) x y
      = if 2 ≤ 192 * n + k ∧ 192 * n + k < 2050 then x else y := by
  rw [row_test ⟨n, hn⟩ ⟨k, hk⟩]
  split <;> rfl

/-- The vertical gradient read at a row and a column. -/
theorem gradY_apply (i : grid0.Coords) (X0 : Vec F S2x8x2048 .f32) (X1 : Vec F S2x192x2048 .f32) (X2 : Vec F S2x8x2048 .f32)
    (k : Fin 195) (q : Fin 2048) :
    gradY i X0 X1 X2 (ix2 k q) =
      if 2 ≤ 192 * (i 0).val + k.val ∧ 192 * (i 0).val + k.val < 2050 then
        (if h : k.val < 2 then X0 (ix3 1 ⟨6 + k.val, by omega⟩ q)
          else if h' : k.val - 2 < 192 then X1 (ix3 1 ⟨k.val - 2, h'⟩ q) else X2 (ix3 1 0 q))
      else FloatOps.ofBits .f32 0#32 := by
  rw [← row_select (i 0).val k.val (i 0).isLt k.isLt]
  pointwise [gradY, k0_pay4, k0_pay3, above, middle, below]

/-- The horizontal gradient read at a row and a column of the padded image. -/
theorem gradX_apply (i : grid0.Coords) (X0 : Vec F S2x8x2048 .f32) (X1 : Vec F S2x192x2048 .f32) (X2 : Vec F S2x8x2048 .f32)
    (k : Fin 195) (q : Fin 2176) :
    gradX i X0 X1 X2 (ix2 k q) =
      if hq : q.val < 2050 then
        (if hq' : q.val < 2 then Scalar.sitofp .f32 0#32 else
          if 2 ≤ 192 * (i 0).val + k.val ∧ 192 * (i 0).val + k.val < 2050 then
            (if h : k.val < 2 then X0 (ix3 0 ⟨6 + k.val, by omega⟩ ⟨q.val - 2, by omega⟩)
              else if h' : k.val - 2 < 192 then X1 (ix3 0 ⟨k.val - 2, h'⟩ ⟨q.val - 2, by omega⟩) else X2 (ix3 0 0 ⟨q.val - 2, by omega⟩))
          else FloatOps.ofBits .f32 0#32)
      else Scalar.sitofp .f32 0#32 := by
  simp only [← row_select (i 0).val k.val (i 0).isLt k.isLt]
  pointwise [gradX, k0_pay5, k0_pay3, above, middle, below]

/-- Middle blocks that agree on the rows inside the image give one output block. -/
theorem outBlk_congr (i : grid0.Coords) (X0 : Vec F S2x8x2048 .f32) (X1 X1' : Vec F S2x192x2048 .f32) (X2 : Vec F S2x8x2048 .f32)
    (h : ∀ (ch : Fin 2) (r : Fin 192) (q : Fin 2048), 192 * (i 0).val + r.val < 2048 → X1 (ix3 ch r q) = X1' (ix3 ch r q)) :
    outBlk i X0 X1 X2 = outBlk i X0 X1' X2 := by
  have hy : gradY i X0 X1 X2 = gradY i X0 X1' X2 := by
    funext x
    obtain ⟨k, q, rfl⟩ : ∃ (k : Fin 195) (q : Fin 2048), x = ix2 k q := ⟨x 0, x 1, by funext a; fin_cases a <;> rfl⟩
    rw [gradY_apply, gradY_apply]
    split
    · split
      · rfl
      · split
        · next hr _ _ => exact h _ _ _ (by dsimp only; omega)
        · rfl
    · rfl
  have hx : gradX i X0 X1 X2 = gradX i X0 X1' X2 := by
    funext x
    obtain ⟨k, q, rfl⟩ : ∃ (k : Fin 195) (q : Fin 2176), x = ix2 k q := ⟨x 0, x 1, by funext a; fin_cases a <;> rfl⟩
    rw [gradX_apply, gradX_apply]
    split
    · split
      · rfl
      · split
        · split
          · rfl
          · split
            · next hr _ _ => exact h _ _ _ (by dsimp only; omega)
            · rfl
        · rfl
    · rfl
  unfold outBlk
  rw [hy, hx]

/-! ## The body's run -/

local notation "𝕄" => MT nD τ sig Unit (Elt F) ℕ (UR sig nD τ) ℕ

/-- A buffer of one core owned in full, seen through a memref. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- Where a store of plane `n` puts its element `x`. -/
theorem emb_plane (n : ℕ) (hn : n < 8) (hb) (x : S1x1x192x2173.Idx) :
    (Rect.unit (s := S1x8x192x2176) ![0, n, 0, 0] S1x1x192x2173.size hb).emb x
      = ix4 0 ⟨n, hn⟩ (x 2) ⟨(x 3).val, lt_trans (x 3).isLt (by decide)⟩ := by
  funext a
  apply Fin.ext
  rw [Rect.emb_apply]
  fin_cases a
  · show 0 + 1 * (x 0).val = 0
    have : (x 0).val < 1 := (x 0).isLt
    omega
  · show n + 1 * (x 1).val = n
    have : (x 1).val < 1 := (x 1).isLt
    omega
  · show 0 + 1 * (x 2).val = (x 2).val
    omega
  · show 0 + 1 * (x 3).val = (x 3).val
    omega

/-- The output block read where plane `n` is stored is that plane. -/
theorem outBlk_plane (i : grid0.Coords) (X0 : Vec F S2x8x2048 .f32) (X1 : Vec F S2x192x2048 .f32) (X2 : Vec F S2x8x2048 .f32)
    (n : ℕ) (hn : n < 8) (hb) (x : S1x1x192x2173.Idx) :
    outBlk i X0 X1 X2 ((Rect.unit (s := S1x8x192x2176) ![0, n, 0, 0] S1x1x192x2173.size hb).emb x)
      = stored (gradY i X0 X1 X2) (gradX i X0 X1 X2) ⟨n, hn⟩ x := by
  rw [emb_plane n hn hb x]
  have h3 : (x 3).val < 2173 := (x 3).isLt
  refine (dif_pos h3).trans ?_
  refine congrArg (stored (gradY i X0 X1 X2) (gradX i X0 X1 X2) ⟨n, hn⟩) ?_
  funext a
  fin_cases a
  · exact Subsingleton.elim (α := Fin 1) _ _
  · exact Subsingleton.elim (α := Fin 1) _ _
  · rfl
  · rfl

/-- An element on a written column lies in the rectangle its plane is stored to. -/
theorem mem_plane (j : S1x8x192x2176.Idx) (hj : (j 3).val < 2173) (n : ℕ) (hb) (hn : (j 1).val = n) :
    j ∈ (Rect.unit (s := S1x8x192x2176) ![0, n, 0, 0] S1x1x192x2173.size hb).set := by
  rw [Rect.mem_set_unit]
  intro a
  fin_cases a
  · exact ⟨Nat.zero_le _, (j 0).isLt⟩
  · exact ⟨hn.ge, by show (j 1).val < n + 1; omega⟩
  · exact ⟨Nat.zero_le _, by show (j 2).val < 0 + 192; have : (j 2).val < 192 := (j 2).isLt; omega⟩
  · exact ⟨Nat.zero_le _, by show (j 3).val < 0 + 2173; omega⟩

/-- A load of the last two rows of the block above. -/
theorem ld_above (X : Vec F S2x8x2048 .f32) (ch : Fin 2) (hb) :
    View.ld (Val := Elt F) X (Rect.unit (s := S2x8x2048) ![ch.val, 6, 0] S1x2x2048.size hb) = above ch X := by
  funext x
  refine View.ld_unit_apply_of _ _ _ _ _ _ fun a => ?_
  fin_cases a
  · have : (x 0).val < 1 := (x 0).isLt
    show ch.val = ch.val + (x 0).val
    omega
  · rfl
  · show (x 2).val = 0 + (x 2).val
    omega

/-- A load of one channel of the middle block. -/
theorem ld_middle (X : Vec F S2x192x2048 .f32) (ch : Fin 2) (hb) :
    View.ld (Val := Elt F) X (Rect.unit (s := S2x192x2048) ![ch.val, 0, 0] S1x192x2048.size hb) = middle ch X := by
  funext x
  refine View.ld_unit_apply_of _ _ _ _ _ _ fun a => ?_
  fin_cases a
  · have : (x 0).val < 1 := (x 0).isLt
    show ch.val = ch.val + (x 0).val
    omega
  · show (x 1).val = 0 + (x 1).val
    omega
  · show (x 2).val = 0 + (x 2).val
    omega

/-- A load of the first row of the block below. -/
theorem ld_below (X : Vec F S2x8x2048 .f32) (ch : Fin 2) (hb) :
    View.ld (Val := Elt F) X (Rect.unit (s := S2x8x2048) ![ch.val, 0, 0] S1x1x2048.size hb) = below ch X := by
  funext x
  refine View.ld_unit_apply_of _ _ _ _ _ _ fun a => ?_
  fin_cases a
  · have : (x 0).val < 1 := (x 0).isLt
    show ch.val = ch.val + (x 0).val
    omega
  · have : (x 1).val < 1 := (x 1).isLt
    show 0 = 0 + (x 1).val
    omega
  · show (x 2).val = 0 + (x 2).val
    omega

/-- The body runs through its loads and stores; its inputs stay, and the output buffer holds, on the columns
    written, the block computed from the inputs. -/
theorem body_run (c : Dev nD) (i : grid0.Coords)
    (M0 : Memref sig .tc .vmem S2x8x2048 .f32) (h0 : M0.IsWhole) (M1 : Memref sig .tc .vmem S2x192x2048 .f32) (h1 : M1.IsWhole)
    (M2 : Memref sig .tc .vmem S2x8x2048 .f32) (h2 : M2.IsWhole) (M3 : Memref sig .tc .vmem S1x8x192x2176 .f32) (h3 : M3.IsWhole)
    (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ))) :
    ∃ W : Buf (Elt F) (M3.view.loc (c : Thread nD τ)),
      (∀ j : S1x8x192x2176.Idx, (j 3).val < 2173 →
        M3.view.read (Elt F) W j = outBlk i (M0.view.read (Elt F) f0) (M1.view.read (Elt F) f1) (M2.view.read (Elt F) f2) j) ∧
      ∀ (E : Set ℕ) (Q : PUnit → sProp 𝕄),
        iprop(pt c M0 f0 ∗ pt c M1 f1 ∗ pt c M2 f2 ∗ pt c M3 f3
          ∗ (iprop(pt c M0 f0 ∗ pt c M1 f1 ∗ pt c M2 f2 ∗ pt c M3 W) -∗ Q ⟨⟩))
        ⊢ wp frame (wpE (defs₀ (F := F)) Variants.none c none) E
            (cc0__body i M0 h0 M1 h1 M2 h2 M3 h3) Q := by
  refine ⟨?_, ?val, fun E Q => ?run⟩
  case run =>
    iintro ⟨H0, H1, H2, H3, Hk⟩
    rw [cc0__body_eq_skeleton]; unfold cc0__body_skel
    rw [k0_part1_eq_skeleton, k0_part2_eq_skeleton, k0_part3_eq_skeleton, k0_part4_eq_skeleton]
    unfold k0_part1_skel k0_part2_skel k0_part3_skel k0_part4_skel
    sl_exec
    sl_step
    iapply Hk
    isplitl [H0]; · iexact H0
    isplitl [H1]; · iexact H1
    isplitl [H2]; · iexact H2
    iexact H3
  case val =>
    intro j hj
    have hy : k0_pay4 i (View.readAt (Elt F) M0.view (Rect.unit (s := S2x8x2048) ![1, 6, 0] S1x2x2048.size inb_S2x8x2048_S1x2x2048_1_6_0).toLoadRect f0)
        (View.readAt (Elt F) M1.view (Rect.unit (s := S2x192x2048) ![1, 0, 0] S1x192x2048.size inb_S2x192x2048_S1x192x2048_1_0_0).toLoadRect f1)
        (View.readAt (Elt F) M2.view (Rect.unit (s := S2x8x2048) ![1, 0, 0] S1x1x2048.size inb_S2x8x2048_S1x1x2048_1_0_0).toLoadRect f2)
        = gradY i (M0.view.read (Elt F) f0) (M1.view.read (Elt F) f1) (M2.view.read (Elt F) f2) := by
      unfold gradY
      rw [← ld_above _ 1 inb_S2x8x2048_S1x2x2048_1_6_0, ← ld_middle _ 1 inb_S2x192x2048_S1x192x2048_1_0_0, ← ld_below _ 1 inb_S2x8x2048_S1x1x2048_1_0_0]
      rfl
    have hx : k0_pay5 i (View.readAt (Elt F) M0.view (Rect.unit (s := S2x8x2048) ![0, 6, 0] S1x2x2048.size inb_S2x8x2048_S1x2x2048_0_6_0).toLoadRect f0)
        (View.readAt (Elt F) M1.view (Rect.unit (s := S2x192x2048) ![0, 0, 0] S1x192x2048.size inb_S2x192x2048_S1x192x2048_0_0_0).toLoadRect f1)
        (View.readAt (Elt F) M2.view (Rect.unit (s := S2x8x2048) ![0, 0, 0] S1x1x2048.size inb_S2x8x2048_S1x1x2048_0_0_0).toLoadRect f2)
        = gradX i (M0.view.read (Elt F) f0) (M1.view.read (Elt F) f1) (M2.view.read (Elt F) f2) := by
      unfold gradX
      rw [← ld_above _ 0 inb_S2x8x2048_S1x2x2048_0_6_0, ← ld_middle _ 0 inb_S2x192x2048_S1x192x2048_0_0_0, ← ld_below _ 0 inb_S2x8x2048_S1x1x2048_0_0_0]
      rfl
    apply View.read_writes_apply_of_pieces
    · simp only [hy, hx, List.forall_mem_cons]
      refine ⟨?_, ?_, ?_, ?_, ?_, ?_, ?_, ?_, fun _ h => absurd h List.not_mem_nil⟩
      · exact fun x => (outBlk_plane _ _ _ _ 7 (by decide) _ x).symm
      · exact fun x => (outBlk_plane _ _ _ _ 6 (by decide) _ x).symm
      · exact fun x => (outBlk_plane _ _ _ _ 5 (by decide) _ x).symm
      · exact fun x => (outBlk_plane _ _ _ _ 4 (by decide) _ x).symm
      · exact fun x => (outBlk_plane _ _ _ _ 3 (by decide) _ x).symm
      · exact fun x => (outBlk_plane _ _ _ _ 2 (by decide) _ x).symm
      · exact fun x => (outBlk_plane _ _ _ _ 1 (by decide) _ x).symm
      · exact fun x => (outBlk_plane _ _ _ _ 0 (by decide) _ x).symm
    · simp only [hy, hx, List.exists_mem_cons_iff]
      have h1 : (j 1).val < 8 := (j 1).isLt
      have hc : (j 1).val = 7 ∨ (j 1).val = 6 ∨ (j 1).val = 5 ∨ (j 1).val = 4 ∨ (j 1).val = 3 ∨ (j 1).val = 2 ∨ (j 1).val = 1 ∨ (j 1).val = 0 := by omega
      rcases hc with hc | hc | hc | hc | hc | hc | hc | hc
      · exact .inl (mem_plane j hj 7 _ hc)
      · exact .inr (.inl (mem_plane j hj 6 _ hc))
      · exact .inr (.inr (.inl (mem_plane j hj 5 _ hc)))
      · exact .inr (.inr (.inr (.inl (mem_plane j hj 4 _ hc))))
      · exact .inr (.inr (.inr (.inr (.inl (mem_plane j hj 3 _ hc)))))
      · exact .inr (.inr (.inr (.inr (.inr (.inl (mem_plane j hj 2 _ hc))))))
      · exact .inr (.inr (.inr (.inr (.inr (.inr (.inl (mem_plane j hj 1 _ hc)))))))
      · exact .inr (.inr (.inr (.inr (.inr (.inr (.inr (.inl (mem_plane j hj 0 _ hc))))))))

end Cert.KernelIdeal.Run
end
-- ==== Proof.Run.lean ====
module

public import proofs.«01_k».proof.Proof.Block
public import proofs.«01_k».proof.Proof.Gen.KernelIdeal.Launch

/-! The run of the whole kernel: the body meets the pipeline's obligation at every grid point, so every execution
    ends with the arrays the pipeline computes and the arguments unchanged. -/

@[expose] public section

noncomputable section

namespace Cert.KernelIdeal.Run

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body between owned staging buffers: the inputs come back unchanged, the output holds the computed block on
    the written columns. -/
theorem sound_body (c : Dev nD) (E : Set ℕ) (i : grid0.Coords)
    (M0 : Memref sig .tc .vmem S2x8x2048 .f32) (h0 : M0.IsWhole) (M1 : Memref sig .tc .vmem S2x192x2048 .f32) (h1 : M1.IsWhole)
    (M2 : Memref sig .tc .vmem S2x8x2048 .f32) (h2 : M2.IsWhole) (M3 : Memref sig .tc .vmem S1x8x192x2176 .f32) (h3 : M3.IsWhole)
    (X0 : Vec F S2x8x2048 .f32) (X1 : Vec F S2x192x2048 .f32) (X2 : Vec F S2x8x2048 .f32) (X3 : Vec F S1x8x192x2176 .f32)
    (K : PUnit → sProp 𝕄) :
    iprop((owns (c : Thread nD τ) M0 fullShare X0 ∗ owns (c : Thread nD τ) M1 fullShare X1
            ∗ owns (c : Thread nD τ) M2 fullShare X2 ∗ owns (c : Thread nD τ) M3 fullShare X3)
          ∗ (iprop(owns (c : Thread nD τ) M0 fullShare X0 ∗ owns (c : Thread nD τ) M1 fullShare X1
                  ∗ owns (c : Thread nD τ) M2 fullShare X2
                  ∗ (∃ Y : Vec F S1x8x192x2176 .f32, ⌜∀ j : S1x8x192x2176.Idx, (j 3).val < 2173 → Y j = outBlk i X0 X1 X2 j⌝
                      ∗ owns (c : Thread nD τ) M3 fullShare Y)) -∗ K ⟨⟩))
      ⊢ wp frame (wpE (defs₀ (F := F)) Variants.none c none) E (cc0__body i M0 h0 M1 h1 M2 h2 M3 h3) K := by
  unfold owns
  rw [h0.set_eq_univ, h1.set_eq_univ, h2.set_eq_univ, h3.set_eq_univ]
  iintro ⟨⟨⟨%f0, %e0, H0⟩, ⟨%f1, %e1, H1⟩, ⟨%f2, %e2, H2⟩, ⟨%f3, %e3, H3⟩⟩, Hk⟩
  subst e0 e1 e2 e3
  obtain ⟨W, hW, run⟩ := body_run c i M0 h0 M1 h1 M2 h2 M3 h3 f0 f1 f2 f3
  iapply (run E K)
  isplitl [H0]; · iexact H0
  isplitl [H1]; · iexact H1
  isplitl [H2]; · iexact H2
  isplitl [H3]; · iexact H3
  iintro ⟨H0, H1, H2, H3⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists M3.view.read (Elt F) W
  isplitr; · ipureintro; exact hW
  iexists W; isplitr; · ipureintro; rfl
  iexact H3

/-! ## The data of the pipeline -/

/-- The middle block at point `t`, zero below the image. -/
def midBlk (c : Dev nD) (t : Fin cfg0.N) : Vec F S2x192x2048 .f32 :=
  win0_1.fill (grid0.coords t) (fun _ => FloatOps.ofBits .f32 0#32) (iblk m c 1 t)

/-- The output block the body computes at point `t`. -/
def outAt (c : Dev nD) (t : Fin cfg0.N) : Vec F S1x8x192x2176 .f32 :=
  outBlk (grid0.coords t) (iblk m c 0 t) (midBlk m c t) (iblk m c 2 t)

/-- The proof data: the inputs stay as fetched, the output is the computed block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => midBlk m c t
    | ⟨2, _⟩ => iblk m c 2 t
    | ⟨3, _⟩ => outAt m c t
  Φ _ := Pipeline.ΦA spec0 c
  q w := Pipeline.shareOf spec0 w
  owed _ := 0

/-- The block above is in its buffer when the body starts. -/
theorem before_0 (c : Dev nD) (t : Fin cfg0.N) (d) : (dats m 0 c).before 0 t d = iblk m c 0 t :=
  before0_0_of m (dats m 0 c) rfl (fun _ => rfl) t d

/-- The middle block is in its buffer, on the rows inside the image. -/
theorem before_1 (c : Dev nD) (t : Fin cfg0.N) (d) :
    (dats m 0 c).before 1 t d = win0_1.fill (grid0.coords t) d (iblk m c 1 t) := by
  unfold Dat.before; rw [if_pos (fetch0_1 t)]; rfl

/-- The block below is in its buffer when the body starts. -/
theorem before_2 (c : Dev nD) (t : Fin cfg0.N) (d) : (dats m 0 c).before 2 t d = iblk m c 2 t :=
  before0_2_of m (dats m 0 c) rfl (fun _ => rfl) t d

/-- At point `t` the grid coordinate is `t`. -/
theorem coord_val : ∀ t : Fin grid0.N, ((grid0.coords t) 0).val = t.val := by decide

/-- The rows of the middle block that are inside the image. -/
theorem mid_rows : ∀ t : Fin grid0.N, win0_1.xsize (grid0.coords t) 0 = 2
    ∧ win0_1.xsize (grid0.coords t) 1 = min 192 (2048 - 192 * t.val) ∧ win0_1.xsize (grid0.coords t) 2 = 2048 := by decide

/-- The part of the output block that is inside the result. -/
theorem out_part : ∀ t : Fin grid0.N, win0_3.xsize (grid0.coords t) 0 = 1 ∧ win0_3.xsize (grid0.coords t) 1 = 8
    ∧ win0_3.xsize (grid0.coords t) 2 = min 192 (2049 - 192 * t.val) ∧ win0_3.xsize (grid0.coords t) 3 = 2049 := by decide

/-- Inside the image the filled middle block is the fetched one, whatever fills the rest. -/
theorem mid_fill (c : Dev nD) (t : Fin cfg0.N) (d : Vec F S2x192x2048 .f32) (ch : Fin 2) (r : Fin 192) (q : Fin 2048)
    (h : 192 * ((grid0.coords t) 0).val + r.val < 2048) :
    win0_1.fill (grid0.coords t) d (iblk m c 1 t) (ix3 ch r q) = midBlk m c t (ix3 ch r q) := by
  obtain ⟨e0, e1, e2⟩ := mid_rows t
  rw [coord_val] at h
  have hm : win0_1.moved (grid0.coords t) (ix3 ch r q) = true := by
    rw [win0_1.moved_iff]
    intro a
    fin_cases a
    · exact lt_of_lt_of_eq ch.isLt e0.symm
    · refine lt_of_lt_of_eq (b := min 192 (2048 - 192 * t.val)) ?_ e1.symm
      have := r.isLt
      show r.val < _
      omega
    · exact lt_of_lt_of_eq q.isLt e2.symm
  unfold midBlk Pipeline.Window.fill
  rw [dif_pos hm, dif_pos hm]

/-- The output block does not depend on what lies below the image. -/
theorem out_fill (c : Dev nD) (t : Fin cfg0.N) (d : Vec F S2x192x2048 .f32) :
    outBlk (grid0.coords t) (iblk m c 0 t) (win0_1.fill (grid0.coords t) d (iblk m c 1 t)) (iblk m c 2 t) = outAt m c t :=
  outBlk_congr _ _ _ _ _ fun ch r q h => mid_fill m c t d ch r q h

/-- A block equal to the computed one on the written columns agrees with it on the part inside the result. -/
theorem cut_out (c : Dev nD) (t : Fin cfg0.N) (Y : Vec F S1x8x192x2176 .f32)
    (hY : ∀ j : S1x8x192x2176.Idx, (j 3).val < 2173 → Y j = outAt m c t j) :
    win0_3.cut (grid0.coords t) Y = win0_3.cut (grid0.coords t) (outAt m c t) := by
  funext j
  refine hY _ ?_
  have : (j 3).val < 2049 := lt_of_lt_of_eq (j 3).isLt (out_part t).2.2.2
  show (j 3).val < 2173
  omega

/-- The pipeline's obligation on the body, at every grid point. -/
theorem body_obligation (c : Dev nD) : BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2]
  iapply (sound_body (F := F) c Set.univ (grid0.coords t) _ _ _ _ _ _ _ _
    (iblk m c 0 t) (win0_1.fill (grid0.coords t) d1 (iblk m c 1 t)) (iblk m c 2 t) ((dats m 0 c).before 3 t d3) _)
  isplitl [H0 H1 H2 H3]
  · isplitl [H0]; · iexact H0
    isplitl [H1]; · iexact H1
    isplitl [H2]; · iexact H2
    iexact H3
  iintro ⟨H0, H1, H2, ⟨%Y, %hY, H3⟩⟩
  rw [out_fill] at hY
  isplitl [HΦ]; · iexact HΦ
  isplitl [Ho]; · iexact Ho
  isplitl [H0]; · iexact H0
  isplitl [H1]
  · iexists d1
    change _ ⊢ owns (c : Thread nD τ) (win0_1.stage (cfg0.slots t 1)) fullShare (win0_1.fill (grid0.coords t) d1 (win0_1.cut (grid0.coords t) (midBlk m c t)))
    rw [show win0_1.cut (grid0.coords t) (midBlk m c t) = iblk m c 1 t from win0_1.cut_fill _ _ _]
  isplitl [H2]; · iexact H2
  iexists Y
  change _ ⊢ owns (c : Thread nD τ) (win0_3.stage (cfg0.slots t 3)) fullShare (win0_3.fill (grid0.coords t) Y (win0_3.cut (grid0.coords t) (outAt m c t)))
  rw [win0_3.fill_congr_cut _ (cut_out m c t Y hY)]

/-- Every execution ends with the arrays the pipeline computes, everything else as it was at the region's start,
    and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_shared cfgs (dats m) 0 launch₀0 defs₀ Variants.none m ρ main
    (fun c => body_obligation m c) (fun _ _ _ => rfl) (fun _ _ => rfl) (V m) (hmain m Variants.none) (fun _ _ => rfl) (fun _ _ => rfl)
    (fun r => Pipeline.FramePost cfgs (dats m) 0 (V m) r ∧ r.2.sem = fun _ => 0) (fun _ h => h)

/-- The result array after the run, the arguments unchanged, the counters at zero. -/
theorem run_post : θ_run defs (onTc (τ := τ) (main (F := F))) ⟨m, fun _ => 0, ρ⟩ (fun r => (∀ c : Dev nD,
      r.2.mem ((c.tc : Thread nD τ).loc main_v1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.KernelIdeal.Run
end
-- ==== Proof.Frames.lean ====
module

public import proofs.«01_k».proof.Defs
public import proofs.«01_k».proof.Proof.Run
public import proofs.«01_k».proof.Proof.Gen.Kernel
public import proofs.«01_k».proof.Proof.Gen.ReferenceIdeal.Run

/-! Every program of the certificate runs to its end, leaves its arguments as they were and its counters at zero. -/

@[expose] public section

noncomputable section

namespace Cert.Proof

open Idealize.ShloMosaic Idealize.ShloMosaic.TcCoe Idealize.SL.Sem

/-- The kernel at any floats runs, its arguments unchanged. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).2.1, (h.1 c).2.2.1, (h.1 c).2.2.2⟩, h.2⟩)
    (Cert.KernelIdeal.Run.run_post m g)

/-- The compiled kernel's body table is the idealized one's, the two programs being one text. -/
theorem bodies_eq : (Cert.Kernel.defs₀ (F := Bits)) = Cert.KernelIdeal.defs₀ (F := Bits) := by
  refine congrArg (Defs.onTc (nD := Cert.Kernel.nD) (τ := Cert.Kernel.τ) (sig := Cert.Kernel.sig) (Λ := Cert.Kernel.Λ₀)) (funext fun l => ?_)
  fin_cases l
  funext x
  rfl

/-- The tables with the pipeline's own labels are one table. -/
theorem tables_eq : (Cert.Kernel.defs (F := Bits)) = Cert.KernelIdeal.defs (F := Bits) :=
  congrArg (Pipeline.defs Cert.KernelIdeal.pcfgs) bodies_eq

/-- The compiled kernel is the idealized one's text at the machine's floats, so its run is that one's. -/
theorem frame_kernel : Cert.quiescent_Kernel := fun m g _ =>
  Eq.mpr (congrArg (fun d => θ_run d (onTc (τ := Cert.KernelIdeal.τ) (Cert.KernelIdeal.main (F := Bits))) ⟨m, fun _ => 0, g⟩ _) tables_eq)
    (frame_any (F := Bits) m g)

/-- The idealized kernel runs, its arguments unchanged. -/
theorem frame_kernelIdeal : Cert.quiescent_KernelIdeal := fun m g _ => frame_any (F := Ideal) m g

/-- The reference runs, its arguments unchanged. -/
theorem frame_referenceIdeal : Cert.quiescent_ReferenceIdeal := fun m g _ =>
  (θ_run Cert.ReferenceIdeal.defs _ _).mono
    (fun r h => ⟨fun c => ⟨(h c).2.1, (h c).2.2.1, (h c).2.2.2⟩, sem_eq_zero_of_no_sems (by decide) r.2⟩)
    (Cert.ReferenceIdeal.Value.run (F := Ideal) m g)

end Cert.Proof
end
-- ==== Proof.Value.lean ====
module

public import proofs.«01_k».proof.Proof.Run
public import Idealize.ShloMosaic.Lib.Pipeline.ValueKit.Geometry
public import Idealize.ShloMosaic.PureOps.Ideal.Laws

/-! The blocks of the kernel read as the image, and the result array read as the blocks. -/

@[expose] public section

noncomputable section

namespace Cert.KernelIdeal.Run

open Cert.KernelIdeal Cert.KernelIdeal.Gen
open Idealize.ShloMosaic Idealize.ShloMosaic.TcCoe Idealize.ShloMosaic.Pointwise
open Idealize.SL.Sem
open Idealize.ShloMosaic.Pipeline (Dat Cfg Window)

variable (m : (ℓ : Loc nD τ sig) → Buf (Elt Ideal) ℓ)

/-- The image with two rows and two columns of zeros on every side, at a padded row and column. -/
def pix (x : Vec Ideal S1x2x2048x2048 .f32) (ch : Fin 2) (y q : ℕ) : EReal :=
  if h : (2 ≤ y ∧ y < 2050) ∧ (2 ≤ q ∧ q < 2050) then x (ix4 0 ch ⟨y - 2, by omega⟩ ⟨q - 2, by omega⟩) else 0

/-- The image argument of device `c`. -/
abbrev image (c : Dev nD) : Vec Ideal S1x2x2048x2048 .f32 := m ((c : Thread nD τ).loc main_arg0)

/-- The kernel's input array is the image argument without its leading axis. -/
theorem V_image (c : Dev nD) (ch : Fin 2) (y q : Fin 2048) : V m c main_v0 (ix3 ch y q) = image m c (ix4 0 ch y q) := by
  have h : V m c main_v0 = shapeCast S2x2048x2048 (image m c) shapeCasts_S1x2x2048x2048_S2x2048x2048 := by
    simp only [V, hostOps0]
    after_results
    rfl
  rw [h]
  pointwise

/-- The block index of the window above. -/
theorem index_above : ∀ t : Fin grid0.N, win0_0.index t 0 = 0 ∧ win0_0.index t 1 = 24 * t.val - 1 ∧ win0_0.index t 2 = 0 := by decide
/-- The block index of the middle window. -/
theorem index_middle : ∀ t : Fin grid0.N, win0_1.index t 0 = 0 ∧ win0_1.index t 1 = t.val ∧ win0_1.index t 2 = 0 := by decide
/-- The block index of the window below. -/
theorem index_below : ∀ t : Fin grid0.N, win0_2.index t 0 = 0 ∧ win0_2.index t 1 = min (24 * t.val + 24) 255 ∧ win0_2.index t 2 = 0 := by decide
/-- The block index of the result's window. -/
theorem index_out : ∀ t : Fin grid0.N, win0_3.index t 0 = 0 ∧ win0_3.index t 1 = 0 ∧ win0_3.index t 2 = t.val ∧ win0_3.index t 3 = 0 := by decide

/-- The last two rows of the block above are the two image rows before the middle block. -/
theorem above_image (c : Dev nD) (t : Fin cfg0.N) (ch : Fin 2) (k : ℕ) (hk : k < 2) (hp : 2 ≤ 192 * t.val + k) (hp' : 192 * t.val + k < 2050) (q : Fin 2048) :
    iblk m c 0 t (ix3 ch ⟨6 + k, by omega⟩ q) = image m c (ix4 0 ch ⟨192 * t.val + k - 2, by omega⟩ q) := by
  obtain ⟨e0, e1, e2⟩ := index_above t
  rw [← V_image]
  show V m c main_v0 (((cfg0.win 0).blk t).view.emb (ix3 ch ⟨6 + k, by omega⟩ q)) = _
  congr 1
  funext a
  apply Fin.ext
  fin_cases a
  · show win0_0.index t 0 * 2 + 1 * ch.val = ch.val
    omega
  · show win0_0.index t 1 * 8 + 1 * (6 + k) = 192 * t.val + k - 2
    omega
  · show win0_0.index t 2 * 2048 + 1 * q.val = q.val
    omega

/-- The first row of the block below is the image row after the middle block. -/
theorem below_image (c : Dev nD) (t : Fin cfg0.N) (ch : Fin 2) (hp : 192 * t.val + 192 < 2048) (q : Fin 2048) :
    iblk m c 2 t (ix3 ch 0 q) = image m c (ix4 0 ch ⟨192 * t.val + 192, hp⟩ q) := by
  obtain ⟨e0, e1, e2⟩ := index_below t
  rw [← V_image]
  show V m c main_v0 (((cfg0.win 2).blk t).view.emb (ix3 ch 0 q)) = _
  congr 1
  funext a
  apply Fin.ext
  fin_cases a
  · show win0_2.index t 0 * 2 + 1 * ch.val = ch.val
    omega
  · show win0_2.index t 1 * 8 + 1 * 0 = 192 * t.val + 192
    omega
  · show win0_2.index t 2 * 2048 + 1 * q.val = q.val
    omega

/-- The middle block holds the image's rows. -/
theorem middle_image (c : Dev nD) (t : Fin cfg0.N) (ch : Fin 2) (r : Fin 192) (hp : 192 * t.val + r.val < 2048) (q : Fin 2048) :
    midBlk m c t (ix3 ch r q) = image m c (ix4 0 ch ⟨192 * t.val + r.val, hp⟩ q) := by
  obtain ⟨e0, e1, e2⟩ := index_middle t
  obtain ⟨s0, s1, s2⟩ := mid_rows t
  have hm : win0_1.moved (grid0.coords t) (ix3 ch r q) = true := by
    rw [win0_1.moved_iff]
    intro a
    fin_cases a
    · exact lt_of_lt_of_eq ch.isLt s0.symm
    · refine lt_of_lt_of_eq (b := min 192 (2048 - 192 * t.val)) ?_ s1.symm
      have := r.isLt
      show r.val < _
      omega
    · exact lt_of_lt_of_eq q.isLt s2.symm
  unfold midBlk Pipeline.Window.fill
  rw [dif_pos hm, ← V_image]
  show V m c main_v0 (((cfg0.win 1).blk t).view.emb _) = _
  congr 1
  funext a
  apply Fin.ext
  fin_cases a
  · show win0_1.index t 0 * 2 + 1 * ch.val = ch.val
    omega
  · show win0_1.index t 1 * 192 + 1 * r.val = 192 * t.val + r.val
    omega
  · show win0_1.index t 2 * 2048 + 1 * q.val = q.val
    omega

/-- The integer zero as a real is zero. -/
theorem int_zero : ((((0#32).toInt : ℝ)) : EReal) = 0 := by norm_num

/-- The three blocks, cut to the image's rows, are the padded image at the block's rows. -/
theorem rows_pix (c : Dev nD) (t : Fin cfg0.N) (ch : Fin 2) (k : Fin 195) (q : ℕ) (hq : 2 ≤ q ∧ q < 2050) :
    (if 2 ≤ 192 * ((grid0.coords t) 0).val + k.val ∧ 192 * ((grid0.coords t) 0).val + k.val < 2050 then
        (if h : k.val < 2 then iblk m c 0 t (ix3 ch ⟨6 + k.val, by omega⟩ ⟨q - 2, by omega⟩)
          else if h' : k.val - 2 < 192 then midBlk m c t (ix3 ch ⟨k.val - 2, h'⟩ ⟨q - 2, by omega⟩)
          else iblk m c 2 t (ix3 ch 0 ⟨q - 2, by omega⟩))
      else (0 : EReal)) = pix (image m c) ch (192 * t.val + k.val) q := by
  rw [coord_val]
  unfold pix
  have hk := k.isLt
  by_cases hr : 2 ≤ 192 * t.val + k.val ∧ 192 * t.val + k.val < 2050
  · rw [if_pos hr, dif_pos (show (2 ≤ 192 * t.val + k.val ∧ 192 * t.val + k.val < 2050) ∧ (2 ≤ q ∧ q < 2050) from ⟨hr, hq⟩)]
    by_cases h1 : k.val < 2
    · rw [dif_pos h1]
      exact above_image m c t ch k.val h1 hr.1 hr.2 _
    · rw [dif_neg h1]
      by_cases h2 : k.val - 2 < 192
      · rw [dif_pos h2, middle_image m c t ch ⟨k.val - 2, h2⟩ (by show 192 * t.val + (k.val - 2) < 2048; omega)]
        congr 2
        apply Fin.ext
        show 192 * t.val + (k.val - 2) = 192 * t.val + k.val - 2
        omega
      · rw [dif_neg h2, below_image m c t ch (by omega)]
        congr 2
        apply Fin.ext
        show 192 * t.val + 192 = 192 * t.val + k.val - 2
        omega
  · rw [if_neg hr, dif_neg (fun h => hr h.1)]

/-- The horizontal gradient at a block's row and padded column is the padded image's. -/
theorem gradX_pix (c : Dev nD) (t : Fin cfg0.N) (k : Fin 195) (q : Fin 2176) :
    gradX (grid0.coords t) (iblk m c 0 t) (midBlk m c t) (iblk m c 2 t) (ix2 k q) = pix (image m c) 0 (192 * t.val + k.val) q.val := by
  rw [gradX_apply]
  by_cases hq : 2 ≤ q.val ∧ q.val < 2050
  · rw [dif_pos hq.2, dif_neg (by omega), ← rows_pix m c t 0 k q.val hq]
    simp only [Ideal.ofBits_def, Ideal.ofBits_zero_f32]
  · rw [show pix (image m c) 0 (192 * t.val + k.val) q.val = 0 from dif_neg (fun h => hq h.2)]
    by_cases h1 : q.val < 2050
    · rw [dif_pos h1, dif_pos (by omega)]
      exact int_zero
    · rw [dif_neg h1]
      exact int_zero

/-- The vertical gradient, padded as the body pads it, is the padded image's. -/
theorem gradY_pix (c : Dev nD) (t : Fin cfg0.N) (k : Fin 195) (q : Fin 2176) :
    k0_pay7 (gradY (grid0.coords t) (iblk m c 0 t) (midBlk m c t) (iblk m c 2 t)) 0#32 (ix2 k q) = pix (image m c) 1 (192 * t.val + k.val) q.val := by
  have e : k0_pay7 (gradY (grid0.coords t) (iblk m c 0 t) (midBlk m c t) (iblk m c 2 t)) 0#32 (ix2 k q)
      = if h : q.val < 2050 then (if h' : q.val < 2 then ((((0#32).toInt : ℝ)) : EReal) else
          gradY (grid0.coords t) (iblk m c 0 t) (midBlk m c t) (iblk m c 2 t) (ix2 k ⟨q.val - 2, by omega⟩)) else ((((0#32).toInt : ℝ)) : EReal) := by
    pointwise [k0_pay7]
  rw [e]
  by_cases hq : 2 ≤ q.val ∧ q.val < 2050
  · rw [dif_pos hq.2, dif_neg (by omega), gradY_apply, ← rows_pix m c t 1 k q.val hq]
    simp only [Ideal.ofBits_def, Ideal.ofBits_zero_f32]
  · rw [show pix (image m c) 1 (192 * t.val + k.val) q.val = 0 from dif_neg (fun h => hq h.2)]
    by_cases h1 : q.val < 2050
    · rw [dif_pos h1, dif_pos (by omega)]
      exact int_zero
    · rw [dif_neg h1]
      exact int_zero

end Cert.KernelIdeal.Run
end
-- ==== Proof.Wedge.lean ====
module

public import Idealize.ShloMosaic.PureOps.Ideal.Laws

/-! The eight wedges of the plane the kernel sorts a gradient into, and the vote of a gradient for a wedge. -/

@[expose] public section

noncomputable section

namespace Cert.Sift

open Idealize.ShloMosaic

/-- The wedge of a gradient, by the signs of its coordinates and by which is larger. -/
def wedge (gx gy : EReal) : Fin 8 :=
  if gy < 0 then
    if gx < 0 then (if max gx (-gx) < max gy (-gy) then 5 else 4) else (if max gx (-gx) ≤ max gy (-gy) then 6 else 7)
  else
    if gx < 0 then (if max gx (-gx) ≤ max gy (-gy) then 2 else 3) else (if max gx (-gx) < max gy (-gy) then 1 else 0)

/-- What a gradient adds to bin `c` of a histogram: its length if it lies in wedge `c`. -/
def vote (c : Fin 8) (gx gy : EReal) : EReal := if wedge gx gy = c then Ideal.sqrt (gx * gx + gy * gy) else 0

/-- The zero gradient adds nothing to any bin. -/
theorem vote_zero (c : Fin 8) : vote c 0 0 = 0 := by
  unfold vote
  split
  · rw [mul_zero, add_zero]
    show (if (0 : ℝ) < 0 then (⊥ : EReal) else ((√(0 : ℝ) : ℝ) : EReal)) = 0
    simp
  · rfl

end Cert.Sift
end
-- ==== Proof.Planes.lean ====
module

public import proofs.«01_k».proof.Proof.Block
public import proofs.«01_k».proof.Proof.Wedge

/-! The planes the body stores, over the extended reals: each element is the sum of sixteen votes. -/

@[expose] public section

noncomputable section

namespace Cert.KernelIdeal.Run

open Cert.KernelIdeal Cert.KernelIdeal.Gen Cert.Sift
open Idealize.ShloMosaic Idealize.ShloMosaic.TcCoe Idealize.ShloMosaic.Pointwise

/-- The vertical gradient as the body reads it: padded, at a row and a padded column. -/
def padY (gy : FVec Ideal S195x2048 .f32) (k : Fin 195) (q : Fin 2176) : EReal := k0_pay7 gy 0#32 (ix2 k q)
/-- The horizontal gradient as the body reads it. -/
def padX (gx : FVec Ideal S195x2176 .f32) (k : Fin 195) (q : Fin 2176) : EReal := gx (ix2 k q)

/-- A truth value as a bit. -/
theorem bit (p : Prop) [Decidable p] : BitVec.ofBool (decide p) = if p then 1#1 else 0#1 := by
  by_cases h : p <;> simp [h]

/-- A choice by a bit that stands for a truth value. -/
theorem select_bit (p : Prop) [Decidable p] (a b : EReal) :
    Scalar.select (if p then 1#1 else 0#1) a b = if p then a else b := by
  by_cases h : p <;> simp [h, Scalar.select]

section masks
variable (gy : FVec Ideal S195x2048 .f32) (gx : FVec Ideal S195x2176 .f32) (k : Fin 195) (q : Fin 2176)

/-- The horizontal gradient is negative. -/
theorem neg_x : k0_pay8 gx (ix2 k q) = if padX gx k q < 0 then 1#1 else 0#1 := by
  pointwise [k0_pay8, k0_pay6]
  exact bit _
/-- The vertical gradient is negative. -/
theorem neg_y : k0_pay9 gy 0#32 (ix2 k q) = if padY gy k q < 0 then 1#1 else 0#1 := by
  pointwise [k0_pay9]
  exact bit _
/-- The vertical gradient is the longer. -/
theorem steep : k0_pay14 gy gx 0#32 (ix2 k q)
    = if max (padX gx k q) (-padX gx k q) < max (padY gy k q) (-padY gy k q) then 1#1 else 0#1 := by
  pointwise [k0_pay14, k0_pay13, k0_pay12, k0_pay6]
  exact bit _
/-- The vertical gradient is at least as long. -/
theorem steep_eq : k0_pay15 gy gx 0#32 (ix2 k q)
    = if max (padX gx k q) (-padX gx k q) ≤ max (padY gy k q) (-padY gy k q) then 1#1 else 0#1 := by
  pointwise [k0_pay15, k0_pay13, k0_pay12, k0_pay6]
  exact bit _

/-- The mask of wedge 0. -/
theorem mask_0 : k0_pay16 gy gx 0#32 (ix2 k q) = if wedge (padX gx k q) (padY gy k q) = 0 then 1#1 else 0#1 := by
  pointwise [k0_pay16, k0_pay10, k0_pay11]
  rw [neg_x, neg_y, steep]
  unfold wedge
  split_ifs <;> first | rfl | (exfalso; simp_all; done)

/-- The mask of wedge 1. -/
theorem mask_1 : k0_pay17 gy gx 0#32 (ix2 k q) = if wedge (padX gx k q) (padY gy k q) = 1 then 1#1 else 0#1 := by
  pointwise [k0_pay17, k0_pay10, k0_pay11]
  rw [neg_x, neg_y, steep]
  unfold wedge
  split_ifs <;> first | rfl | (exfalso; simp_all; done)

/-- The mask of wedge 2. -/
theorem mask_2 : k0_pay18 gy gx 0#32 (ix2 k q) = if wedge (padX gx k q) (padY gy k q) = 2 then 1#1 else 0#1 := by
  pointwise [k0_pay18, k0_pay11]
  rw [neg_x, neg_y, steep_eq]
  unfold wedge
  split_ifs <;> first | rfl | (exfalso; simp_all; done)

/-- The mask of wedge 3. -/
theorem mask_3 : k0_pay19 gy gx 0#32 (ix2 k q) = if wedge (padX gx k q) (padY gy k q) = 3 then 1#1 else 0#1 := by
  pointwise [k0_pay19, k0_pay11]
  rw [neg_x, neg_y, steep_eq]
  unfold wedge
  split_ifs <;> first | rfl | (exfalso; simp_all; done)

/-- The mask of wedge 4. -/
theorem mask_4 : k0_pay20 gy gx 0#32 (ix2 k q) = if wedge (padX gx k q) (padY gy k q) = 4 then 1#1 else 0#1 := by
  pointwise [k0_pay20]
  rw [neg_x, neg_y, steep]
  unfold wedge
  split_ifs <;> first | rfl | (exfalso; simp_all; done)

/-- The mask of wedge 5. -/
theorem mask_5 : k0_pay21 gy gx 0#32 (ix2 k q) = if wedge (padX gx k q) (padY gy k q) = 5 then 1#1 else 0#1 := by
  pointwise [k0_pay21]
  rw [neg_x, neg_y, steep]
  unfold wedge
  split_ifs <;> first | rfl | (exfalso; simp_all; done)

/-- The mask of wedge 6. -/
theorem mask_6 : k0_pay22 gy gx 0#32 (ix2 k q) = if wedge (padX gx k q) (padY gy k q) = 6 then 1#1 else 0#1 := by
  pointwise [k0_pay22, k0_pay10]
  rw [neg_x, neg_y, steep_eq]
  unfold wedge
  split_ifs <;> first | rfl | (exfalso; simp_all; done)

/-- The mask of wedge 7. -/
theorem mask_7 : k0_pay23 gy gx 0#32 (ix2 k q) = if wedge (padX gx k q) (padY gy k q) = 7 then 1#1 else 0#1 := by
  pointwise [k0_pay23, k0_pay10]
  rw [neg_x, neg_y, steep_eq]
  unfold wedge
  split_ifs <;> first | rfl | (exfalso; simp_all; done)

/-- The length of a gradient. -/
theorem length_at : k0_pay24 gy gx 0#32 (ix2 k q)
    = Ideal.sqrt (padX gx k q * padX gx k q + padY gy k q * padY gy k q) := by
  pointwise [k0_pay24, k0_pay6]
  rfl

end masks

/-- A number below 2³¹ as a signed word. -/
theorem toInt_small (n : ℕ) (h : n < 2 ^ 31) : (BitVec.ofNat 32 n).toInt = n := by
  rw [BitVec.toInt_ofNat']
  simp only [Int.bmod]
  omega

/-- The band matrix: row `r` holds ones in columns `r` to `r + 3`. -/
theorem band_at (r : Fin 192) (x : Fin 195) : k0_pay26 (F := Ideal) k0_pay25 (ix2 r x)
    = if r.val ≤ x.val ∧ x.val ≤ r.val + 3 then (1 : EReal) else 0 := by
  pointwise [k0_pay26, k0_pay25]
  have e : IntOp.andi (IntOp.cmpi .sge (BitVec.ofNat 32 x.val) (BitVec.ofNat 32 r.val))
      (IntOp.cmpi .sle (BitVec.ofNat 32 x.val) (IntOp.addi (BitVec.ofNat 32 r.val) 3#32))
      = if r.val ≤ x.val ∧ x.val ≤ r.val + 3 then 1#1 else 0#1 := by
    have hr : (BitVec.ofNat 32 r.val).toInt = r.val := toInt_small _ (by omega)
    have hx : (BitVec.ofNat 32 x.val).toInt = x.val := toInt_small _ (by omega)
    have hs : (IntOp.addi (BitVec.ofNat 32 r.val) 3#32).toInt = (r.val + 3 : ℕ) := by
      rw [← toInt_small (r.val + 3) (by omega), BitVec.ofNat_add]
      rfl
    show BitVec.ofBool (BitVec.sle _ _) &&& BitVec.ofBool (BitVec.sle _ _) = _
    simp only [BitVec.sle, hr, hx, hs]
    simp only [Nat.cast_le]
    by_cases h1 : r.val ≤ x.val <;> by_cases h2 : x.val ≤ r.val + 3 <;> simp [h1, h2]
  rw [e]
  split_ifs
  · show (((1#32 : BitVec 32).toInt : ℝ) : EReal) = 1
    norm_num
  · show (((0#32 : BitVec 32).toInt : ℝ) : EReal) = 0
    norm_num

/-- A row of the band against a column: the sum of four neighbours. -/
theorem band_sum (f : Fin 195 → EReal) (r : Fin 192) :
    (∑ x, if r.val ≤ x.val ∧ x.val ≤ r.val + 3 then f x else 0) = ∑ d : Fin 4, f ⟨r.val + d.val, by omega⟩ := by
  have e : ∀ x : Fin 195, (if r.val ≤ x.val ∧ x.val ≤ r.val + 3 then f x else 0)
      = ∑ d : Fin 4, if x = ⟨r.val + d.val, by omega⟩ then f x else 0 := by
    intro x
    split_ifs with h
    · rw [Finset.sum_eq_single (⟨x.val - r.val, by omega⟩ : Fin 4)]
      · rw [if_pos (Fin.ext (by simp; omega))]
      · intro b _ hb
        exact if_neg fun hx => hb (Fin.ext (by have := congrArg Fin.val hx; simp at this ⊢; omega))
      · intro hn
        exact absurd (Finset.mem_univ _) hn
    · refine (Finset.sum_eq_zero fun d _ => if_neg fun hx => h ?_).symm
      have := congrArg Fin.val hx
      simp at this
      omega
  rw [Finset.sum_congr rfl fun x _ => e x, Finset.sum_comm]
  exact Finset.sum_congr rfl fun d _ => by rw [Finset.sum_ite_eq' Finset.univ, if_pos (Finset.mem_univ _)]

/-- One term of a plane: a band entry times a length, kept where the gradient lies in the wedge. -/
theorem term (p w : Prop) [Decidable p] [Decidable w] (v : EReal) :
    (if w then (if p then (1 : EReal) else 0) * v else 0) = if p then (if w then v else 0) else 0 := by
  by_cases hp : p <;> by_cases hw : w <;> simp [hp, hw]

/-- The sum of the votes for bin `c` in the window of four rows and four columns at `(r, q)`. -/
def votes (gy : FVec Ideal S195x2048 .f32) (gx : FVec Ideal S195x2176 .f32) (c : Fin 8) (r : Fin 192) (q : Fin 2173) : EReal :=
  ∑ e : Fin 4, ∑ d : Fin 4, vote c (padX gx ⟨r.val + d.val, by omega⟩ ⟨q.val + e.val, by omega⟩)
    (padY gy ⟨r.val + d.val, by omega⟩ ⟨q.val + e.val, by omega⟩)

/-- The votes, one column after another, in the order the body adds them. -/
theorem votes_eq (gy : FVec Ideal S195x2048 .f32) (gx : FVec Ideal S195x2176 .f32) (c : Fin 8) (r : Fin 192) (q : Fin 2173) :
    votes gy gx c r q
      = ((∑ d : Fin 4, vote c (padX gx ⟨r.val + d.val, by omega⟩ ⟨q.val, by omega⟩) (padY gy ⟨r.val + d.val, by omega⟩ ⟨q.val, by omega⟩))
        + ∑ d : Fin 4, vote c (padX gx ⟨r.val + d.val, by omega⟩ ⟨1 + q.val, by omega⟩) (padY gy ⟨r.val + d.val, by omega⟩ ⟨1 + q.val, by omega⟩))
      + ((∑ d : Fin 4, vote c (padX gx ⟨r.val + d.val, by omega⟩ ⟨2 + q.val, by omega⟩) (padY gy ⟨r.val + d.val, by omega⟩ ⟨2 + q.val, by omega⟩))
        + ∑ d : Fin 4, vote c (padX gx ⟨r.val + d.val, by omega⟩ ⟨1 + (2 + q.val), by omega⟩) (padY gy ⟨r.val + d.val, by omega⟩ ⟨1 + (2 + q.val), by omega⟩)) := by
  have e1 : (⟨q.val + 1, by omega⟩ : Fin 2176) = ⟨1 + q.val, by omega⟩ := Fin.ext (by simp; omega)
  have e2 : (⟨q.val + 2, by omega⟩ : Fin 2176) = ⟨2 + q.val, by omega⟩ := Fin.ext (by simp; omega)
  have e3 : (⟨q.val + 3, by omega⟩ : Fin 2176) = ⟨1 + (2 + q.val), by omega⟩ := Fin.ext (by simp; omega)
  unfold votes
  rw [Fin.sum_univ_four, ← e1, ← e2, ← e3, add_assoc]
  rfl

section planes
variable (gy : FVec Ideal S195x2048 .f32) (gx : FVec Ideal S195x2176 .f32) (r : Fin 192) (q : Fin 2173)

/-- Plane 0 of the stored block. -/
theorem plane_0 : stored gy gx 0 (ix4 0 0 r q) = votes gy gx 0 r q := by
  rw [votes_eq]
  unfold stored
  pointwise [k0_pay27]
  simp only [mask_0, length_at, band_at, select_bit, term, band_sum]
  rfl

/-- Plane 1 of the stored block. -/
theorem plane_1 : stored gy gx 1 (ix4 0 0 r q) = votes gy gx 1 r q := by
  rw [votes_eq]
  unfold stored
  pointwise [k0_pay28]
  simp only [mask_1, length_at, band_at, select_bit, term, band_sum]
  rfl

/-- Plane 2 of the stored block. -/
theorem plane_2 : stored gy gx 2 (ix4 0 0 r q) = votes gy gx 2 r q := by
  rw [votes_eq]
  unfold stored
  pointwise [k0_pay29]
  simp only [mask_2, length_at, band_at, select_bit, term, band_sum]
  rfl

/-- Plane 3 of the stored block. -/
theorem plane_3 : stored gy gx 3 (ix4 0 0 r q) = votes gy gx 3 r q := by
  rw [votes_eq]
  unfold stored
  pointwise [k0_pay30]
  simp only [mask_3, length_at, band_at, select_bit, term, band_sum]
  rfl

/-- Plane 4 of the stored block. -/
theorem plane_4 : stored gy gx 4 (ix4 0 0 r q) = votes gy gx 4 r q := by
  rw [votes_eq]
  unfold stored
  pointwise [k0_pay31]
  simp only [mask_4, length_at, band_at, select_bit, term, band_sum]
  rfl

/-- Plane 5 of the stored block. -/
theorem plane_5 : stored gy gx 5 (ix4 0 0 r q) = votes gy gx 5 r q := by
  rw [votes_eq]
  unfold stored
  pointwise [k0_pay32]
  simp only [mask_5, length_at, band_at, select_bit, term, band_sum]
  rfl

/-- Plane 6 of the stored block. -/
theorem plane_6 : stored gy gx 6 (ix4 0 0 r q) = votes gy gx 6 r q := by
  rw [votes_eq]
  unfold stored
  pointwise [k0_pay1, k0_pay33]
  simp only [mask_6, length_at, band_at, select_bit, term, band_sum]
  rfl

/-- Plane 7 of the stored block. -/
theorem plane_7 : stored gy gx 7 (ix4 0 0 r q) = votes gy gx 7 r q := by
  rw [votes_eq]
  unfold stored
  pointwise [k0_pay2]
  simp only [mask_7, length_at, band_at, select_bit, term, band_sum]
  rfl

/-- Every plane of the stored block holds the votes for its bin. -/
theorem stored_votes (c : Fin 8) : stored gy gx c (ix4 0 0 r q) = votes gy gx c r q := by
  fin_cases c
  · exact plane_0 gy gx r q
  · exact plane_1 gy gx r q
  · exact plane_2 gy gx r q
  · exact plane_3 gy gx r q
  · exact plane_4 gy gx r q
  · exact plane_5 gy gx r q
  · exact plane_6 gy gx r q
  · exact plane_7 gy gx r q

end planes

end Cert.KernelIdeal.Run
end
-- ==== Proof.Result.lean ====
module

public import proofs.«01_k».proof.Proof.Value
public import proofs.«01_k».proof.Proof.Planes

/-! What the kernel's result array holds: at each place, the votes of the sixteen gradients around it. -/

@[expose] public section

noncomputable section

namespace Cert.KernelIdeal.Run

open Cert.KernelIdeal Cert.KernelIdeal.Gen Cert.Sift
open Idealize.ShloMosaic Idealize.ShloMosaic.TcCoe Idealize.ShloMosaic.Pointwise Idealize.SL.Sem

/-- The histograms of an image: bin, row and column. -/
def sift (x : Vec Ideal S1x2x2048x2048 .f32) (ch : Fin 8) (y q : ℕ) : EReal :=
  ∑ e : Fin 4, ∑ d : Fin 4, vote ch (pix x 0 (y + d.val) (q + e.val)) (pix x 1 (y + d.val) (q + e.val))

variable (m : (ℓ : Loc nD τ sig) → Buf (Elt Ideal) ℓ)

/-- One element of the block computed at a grid point. -/
theorem outAt_sift (c : Dev nD) (t : Fin cfg0.N) (ch : Fin 8) (r : Fin 192) (q : Fin 2173) (j : S1x8x192x2176.Idx)
    (e1 : (j 1).val = ch.val) (e2 : (j 2).val = r.val) (e3 : (j 3).val = q.val) :
    outAt m c t j = sift (image m c) ch (192 * t.val + r.val) q.val := by
  have h : (j 3).val < 2173 := e3 ▸ q.isLt
  have e : outAt m c t j = stored (gradY (grid0.coords t) (iblk m c 0 t) (midBlk m c t) (iblk m c 2 t))
      (gradX (grid0.coords t) (iblk m c 0 t) (midBlk m c t) (iblk m c 2 t)) ch (ix4 0 0 r q) := by
    obtain rfl : j 1 = ch := Fin.ext e1
    obtain rfl : j 2 = r := Fin.ext e2
    obtain rfl : ⟨(j 3).val, h⟩ = q := Fin.ext e3
    exact dif_pos h
  rw [e, stored_votes]
  unfold votes sift padX padY
  refine Finset.sum_congr rfl fun e _ => Finset.sum_congr rfl fun d _ => ?_
  rw [gradX_pix, gradY_pix, ← add_assoc]

/-- The blocks written back cover the result. -/
theorem covers : (cfg0.win 3).Covers := by decide +kernel

/-- The result as one array. -/
def answer (c : Dev nD) : Buf (Elt Ideal) ((cfg0.win 3).arr.view.loc (c.tc : Thread nD τ)) :=
  fun i : S1x8x2049x2049.Idx => sift (image m c) (i 1) (i 2).val (i 3).val

/-- One element of the part of a block that is written back. -/
theorem part_sift (c : Dev nD) (t : Fin cfg0.N) (y : (win0_3.xblock (grid0.coords t)).Idx) :
    outAt m c t (win0_3.xinj (grid0.coords t) y) = answer m c (((cfg0.win 3).blk t).view.emb y) := by
  obtain ⟨e0, e1, e2, e3⟩ := index_out t
  obtain ⟨s0, s1, s2, s3⟩ := out_part t
  have h1 : (y 1).val < 8 := lt_of_lt_of_eq (y 1).isLt s1
  have h2 : (y 2).val < min 192 (2049 - 192 * t.val) := lt_of_lt_of_eq (y 2).isLt s2
  have h3 : (y 3).val < 2049 := lt_of_lt_of_eq (y 3).isLt s3
  refine (outAt_sift m c t ⟨(y 1).val, h1⟩ ⟨(y 2).val, by omega⟩ ⟨(y 3).val, by omega⟩ _ rfl rfl rfl).trans ?_
  have k1 : (⟨(y 1).val, h1⟩ : Fin 8) = (((cfg0.win 3).blk t).view.emb y) 1 := by
    apply Fin.ext
    show (y 1).val = win0_3.index t 1 * 8 + 1 * (y 1).val
    omega
  have k2 : 192 * t.val + (y 2).val = ((((cfg0.win 3).blk t).view.emb y) 2).val := by
    show 192 * t.val + (y 2).val = win0_3.index t 2 * 192 + 1 * (y 2).val
    omega
  have k3 : (y 3).val = ((((cfg0.win 3).blk t).view.emb y) 3).val := by
    show (y 3).val = win0_3.index t 3 * 2176 + 1 * (y 3).val
    omega
  unfold answer
  rw [← k2, ← k3, ← k1]

/-- The result array holds the histograms of the image. -/
theorem result_eq (c : Dev nD) : (dats m 0 c).arrAt 3 cfg0.N = answer m c :=
  (dats m 0 c).arrAt_eq_of_covers 3 _ covers fun t _ y => part_sift m c t y

end Cert.KernelIdeal.Run
end
-- ==== Proof.Argmax.lean ====
module

public import proofs.«01_k».proof.Proof.Wedge
public import Mathlib.Tactic.Linarith
public import Mathlib.Tactic.FinCases
public import Mathlib.Tactic.NormNum

/-! The wedge of a gradient is the first of the eight octagon directions whose cosine with it is the largest. -/

@[expose] public section

noncomputable section

namespace Cert.Sift

open Idealize.ShloMosaic

/-- The products of a gradient with the eight directions of an octagon. -/
def cosine (a b gx gy : ℝ) : Fin 8 → ℝ :=
  ![gx * a + gy * b, gx * b + gy * a, gx * -b + gy * a, gx * -a + gy * b,
    gx * -a + gy * -b, gx * -b + gy * -a, gx * b + gy * -a, gx * a + gy * -b]

/-- The place `w` is the first at which `f` is the largest. -/
def FirstLargest (f : Fin 8 → ℝ) (w : Fin 8) : Prop := ∀ i, f i ≤ f w ∧ (i < w → f i < f w)

section cases
variable {a b gx gy : ℝ} (hb : 0 < b) (hd : 0 < a - b)
include hb hd

/-- Wedge 0. -/
theorem wins_0 (h1 : 0 ≤ gx) (h2 : 0 ≤ gy) (h3 : 0 ≤ gx - gy) : FirstLargest (cosine a b gx gy) 0 := by
  have p1 := mul_nonneg hb.le h1
  have p2 := mul_nonneg hd.le h1
  have p3 := mul_nonneg hb.le h2
  have p4 := mul_nonneg hd.le h2
  have p5 := mul_nonneg hb.le h3
  have p6 := mul_nonneg hd.le h3
  intro i
  fin_cases i <;> refine ⟨?_, fun hi => ?_⟩ <;> first | exact absurd hi (by decide) | (simp [cosine] <;> nlinarith)

/-- Wedge 1. -/
theorem wins_1 (h1 : 0 ≤ gx) (h2 : 0 < gy) (h3 : 0 < gy - gx) : FirstLargest (cosine a b gx gy) 1 := by
  have p1 := mul_nonneg hb.le h1
  have p2 := mul_nonneg hd.le h1
  have p3 := mul_pos hb h2
  have p4 := mul_pos hd h2
  have p5 := mul_pos hb h3
  have p6 := mul_pos hd h3
  intro i
  fin_cases i <;> refine ⟨?_, fun hi => ?_⟩ <;> first | exact absurd hi (by decide) | (simp [cosine] <;> nlinarith)

/-- Wedge 2. -/
theorem wins_2 (h1 : 0 < -gx) (h2 : 0 < gy) (h3 : 0 ≤ gy + gx) : FirstLargest (cosine a b gx gy) 2 := by
  have p1 := mul_pos hb h1
  have p2 := mul_pos hd h1
  have p3 := mul_pos hb h2
  have p4 := mul_pos hd h2
  have p5 := mul_nonneg hb.le h3
  have p6 := mul_nonneg hd.le h3
  intro i
  fin_cases i <;> refine ⟨?_, fun hi => ?_⟩ <;> first | exact absurd hi (by decide) | (simp [cosine] <;> nlinarith)

/-- Wedge 3. -/
theorem wins_3 (h1 : 0 < -gx) (h2 : 0 ≤ gy) (h3 : 0 < -gx - gy) : FirstLargest (cosine a b gx gy) 3 := by
  have p1 := mul_pos hb h1
  have p2 := mul_pos hd h1
  have p3 := mul_nonneg hb.le h2
  have p4 := mul_nonneg hd.le h2
  have p5 := mul_pos hb h3
  have p6 := mul_pos hd h3
  intro i
  fin_cases i <;> refine ⟨?_, fun hi => ?_⟩ <;> first | exact absurd hi (by decide) | (simp [cosine] <;> nlinarith)

/-- Wedge 4. -/
theorem wins_4 (h1 : 0 < -gx) (h2 : 0 < -gy) (h3 : 0 ≤ gy - gx) : FirstLargest (cosine a b gx gy) 4 := by
  have p1 := mul_pos hb h1
  have p2 := mul_pos hd h1
  have p3 := mul_pos hb h2
  have p4 := mul_pos hd h2
  have p5 := mul_nonneg hb.le h3
  have p6 := mul_nonneg hd.le h3
  intro i
  fin_cases i <;> refine ⟨?_, fun hi => ?_⟩ <;> first | exact absurd hi (by decide) | (simp [cosine] <;> nlinarith)

/-- Wedge 5. -/
theorem wins_5 (h1 : 0 < -gx) (h2 : 0 < -gy) (h3 : 0 < gx - gy) : FirstLargest (cosine a b gx gy) 5 := by
  have p1 := mul_pos hb h1
  have p2 := mul_pos hd h1
  have p3 := mul_pos hb h2
  have p4 := mul_pos hd h2
  have p5 := mul_pos hb h3
  have p6 := mul_pos hd h3
  intro i
  fin_cases i <;> refine ⟨?_, fun hi => ?_⟩ <;> first | exact absurd hi (by decide) | (simp [cosine] <;> nlinarith)

/-- Wedge 6. -/
theorem wins_6 (h1 : 0 < gx) (h2 : 0 < -gy) (h3 : 0 ≤ -gy - gx) : FirstLargest (cosine a b gx gy) 6 := by
  have p1 := mul_pos hb h1
  have p2 := mul_pos hd h1
  have p3 := mul_pos hb h2
  have p4 := mul_pos hd h2
  have p5 := mul_nonneg hb.le h3
  have p6 := mul_nonneg hd.le h3
  intro i
  fin_cases i <;> refine ⟨?_, fun hi => ?_⟩ <;> first | exact absurd hi (by decide) | (simp [cosine] <;> nlinarith)

/-- Wedge 7. -/
theorem wins_7 (h1 : 0 < gx) (h2 : 0 < -gy) (h3 : 0 < gx + gy) : FirstLargest (cosine a b gx gy) 7 := by
  have p1 := mul_pos hb h1
  have p2 := mul_pos hd h1
  have p3 := mul_pos hb h2
  have p4 := mul_pos hd h2
  have p5 := mul_pos hb h3
  have p6 := mul_pos hd h3
  intro i
  fin_cases i <;> refine ⟨?_, fun hi => ?_⟩ <;> first | exact absurd hi (by decide) | (simp [cosine] <;> nlinarith)

end cases

/-- The larger of a real and its opposite, as an extended real. -/
theorem max_neg (r : ℝ) : max (r : EReal) (-(r : EReal)) = ((|r| : ℝ) : EReal) := by
  rw [← EReal.coe_neg]
  exact (EReal.coe_strictMono.monotone.map_max).symm

/-- The wedge of a finite gradient off the lower half-axis is the first direction with the largest cosine. -/
theorem wedge_first (a b gx gy : ℝ) (hb : 0 < b) (ha : b < a) (h : gx ≠ 0 ∨ 0 ≤ gy) :
    FirstLargest (cosine a b gx gy) (wedge gx gy) := by
  have hd : 0 < a - b := by linarith
  unfold wedge
  simp only [max_neg, EReal.coe_lt_coe_iff, EReal.coe_le_coe_iff, EReal.coe_neg', ← EReal.coe_zero]
  by_cases hy : gy < 0
  · rw [if_pos hy, abs_of_neg hy]
    by_cases hx : gx < 0
    · rw [if_pos hx, abs_of_neg hx]
      split_ifs with k
      · exact wins_5 hb hd (by linarith) (by linarith) (by linarith)
      · exact wins_4 hb hd (by linarith) (by linarith) (by linarith)
    · have hx' : 0 < gx := lt_of_le_of_ne (not_lt.mp hx) (Ne.symm (h.resolve_right (not_le.mpr hy)))
      rw [if_neg hx, abs_of_pos hx']
      split_ifs with k
      · exact wins_6 hb hd hx' (by linarith) (by linarith)
      · exact wins_7 hb hd hx' (by linarith) (by linarith)
  · have hy' := not_lt.mp hy
    rw [if_neg hy, abs_of_nonneg hy']
    by_cases hx : gx < 0
    · rw [if_pos hx, abs_of_neg hx]
      split_ifs with k
      · exact wins_2 hb hd (by linarith) (by linarith) (by linarith)
      · exact wins_3 hb hd (by linarith) hy' (by linarith)
    · have hx' := not_lt.mp hx
      rw [if_neg hx, abs_of_nonneg hx']
      split_ifs with k
      · exact wins_1 hb hd hx' (by linarith) (by linarith)
      · exact wins_0 hb hd hx' hy' (by linarith)

/-- The largest of eight extended reals that come from reals. -/
theorem fold_largest (f : Fin 8 → ℝ) (w : Fin 8) (h : FirstLargest f w) :
    (Finset.univ : Finset (Fin 8)).fold max (⊥ : EReal) (fun i => (f i : EReal)) = f w := by
  apply le_antisymm
  · exact (Finset.fold_max_le _).2 ⟨bot_le, fun i _ => EReal.coe_le_coe_iff.2 (h i).1⟩
  · exact (Finset.le_fold_max _).2 (Or.inr ⟨w, Finset.mem_univ _, le_rfl⟩)

/-- The least marked index of eight, with 8 in the unmarked places. -/
theorem fold_first (p : Fin 8 → Bool) (w : Fin 8) : p w = true → (∀ i, i < w → p i = false) →
    (Finset.univ : Finset (Fin 8)).fold IntOp.minsi 2147483647#32 (fun i => if p i then BitVec.ofNat 32 i.val else 8#32)
      = BitVec.ofNat 32 w.val := by
  revert p w
  decide +kernel

end Cert.Sift
end
-- ==== Proof.Reference.lean ====
module

public import proofs.«01_k».proof.Proof.Gen.ReferenceIdeal.Read
public import proofs.«01_k».proof.Proof.Argmax
public import Idealize.ShloMosaic.Lib.Pointwise

/-! What the reference computes on inputs that meet the precondition: at each place, the votes of the sixteen gradients around it. -/

@[expose] public section

noncomputable section

namespace Cert.ReferenceIdeal.Read

open Cert.ReferenceIdeal Cert.ReferenceIdeal.Gen Cert.Sift
open Idealize.ShloMosaic Idealize.ShloMosaic.TcCoe Idealize.ShloMosaic.Pointwise

variable (x : (⟨S1x2x2048x2048, .f32⟩ : BufTy).Contents (Elt Ideal)) (w : (⟨S10x2x1x1, .f32⟩ : BufTy).Contents (Elt Ideal))
  (v : (⟨S8x1x4x4, .f32⟩ : BufTy).Contents (Elt Ideal))

/-- What the reference needs of its inputs: a finite image off the lower half-axis, an octagon of directions and the two
axes, and weights of one. -/
structure Ready : Prop where
  finite : ∀ ch y q, ∃ r : ℝ, x (ix4 0 ch y q) = (r : EReal)
  side : ∀ y q, x (ix4 0 0 y q) ≠ 0 ∨ 0 ≤ x (ix4 0 1 y q)
  octagon : ∃ a b : ℝ, 0 < b ∧ b < a ∧ ∀ (i : Fin 8) (gx gy : ℝ),
    (gx : EReal) * w (ix4 ⟨i.val, by omega⟩ 0 0 0) + (gy : EReal) * w (ix4 ⟨i.val, by omega⟩ 1 0 0) = ((cosine a b gx gy i : ℝ) : EReal)
  axes : (w (ix4 8 0 0 0) = 1 ∧ w (ix4 8 1 0 0) = 0) ∧ w (ix4 9 0 0 0) = 0 ∧ w (ix4 9 1 0 0) = 1
  ones : ∀ c i j, v (ix4 c 0 i j) = 1

/-- The image with two rows and two columns of zeros on every side, at a padded row and column. -/
def padded (ch : Fin 2) (y q : ℕ) : EReal :=
  if h : (2 ≤ y ∧ y < 2050) ∧ (2 ≤ q ∧ q < 2050) then x (ix4 0 ch ⟨y - 2, by omega⟩ ⟨q - 2, by omega⟩) else 0

/-- The convolution with the directions: one product per channel. -/
theorem conv_at (o : Fin 10) (y q : Fin 2048) : val_main_v2 x w (ix4 0 o y q)
    = x (ix4 0 0 y q) * w (ix4 o 0 0 0) + x (ix4 0 1 y q) * w (ix4 o 1 0 0) := by
  have e : val_main_v2 x w (ix4 0 o y q) = ∑ k : Fin 2, x (ix4 0 k y q) * w (ix4 o k 0 0) := by
    pointwise [val_main_v2, val_main_v1, val_main_v0]
  rw [e, Fin.sum_univ_two]

/-- A comparison for equality of words, as a truth value. -/
theorem word_eq (i j : Fin 8) : FloatOps.uitofp (F := Ideal) .f32 (IntOp.cmpi .eq (BitVec.ofNat 32 i.val) (BitVec.ofNat 32 j.val))
    = if i = j then (1 : EReal) else 0 := by
  have e : IntOp.cmpi .eq (BitVec.ofNat 32 i.val) (BitVec.ofNat 32 j.val) = if i = j then 1#1 else 0#1 := by
    revert i j
    decide
  rw [e]
  split_ifs
  · show (((1#1 : BitVec 1).toNat : ℝ) : EReal) = 1
    norm_num
  · show (((0#1 : BitVec 1).toNat : ℝ) : EReal) = 0
    norm_num

/-- The bits of negative infinity. -/
theorem neg_inf : FloatOps.ofBits (F := Ideal) .f32 0xFF800000#32 = (⊥ : EReal) := by
  simp [Ideal.ofBits_def, Ideal.ofBits, Ideal.ieee]

variable {x w v} (H : Ready x w v)
include H

/-- The orientation the reference finds is the wedge of the gradient. -/
theorem orientation_at (y q : Fin 2048) : val_main_v11 x w (ix3 0 y q)
    = BitVec.ofNat 32 (wedge (x (ix4 0 0 y q)) (x (ix4 0 1 y q))).val := by
  obtain ⟨a, b, hb, ha, hw⟩ := H.octagon
  obtain ⟨gx, ex⟩ := H.finite 0 y q
  obtain ⟨gy, ey⟩ := H.finite 1 y q
  have hs : gx ≠ 0 ∨ 0 ≤ gy := by
    rcases H.side y q with h | h
    · exact Or.inl fun hz => h (by rw [ex, hz]; rfl)
    · rw [ey] at h
      exact Or.inr (EReal.coe_nonneg.1 h)
  have first := wedge_first a b gx gy hb ha hs
  have ec : ∀ i : Fin 8, val_main_v3 x w (ix4 0 i y q) = ((cosine a b gx gy i : ℝ) : EReal) := by
    intro i
    have e : val_main_v3 x w (ix4 0 i y q) = val_main_v2 x w (ix4 0 ⟨i.val, by omega⟩ y q) := by
      pointwise [val_main_v3]
    rw [e, conv_at, ex, ey, hw]
  have em : val_main_v5 x w (ix3 0 y q) = ((cosine a b gx gy (wedge gx gy) : ℝ) : EReal) := by
    unfold val_main_v5
    rw [Host.reduce_eq_fold_single (a := 1) _ _ _ _ (by decide), ← fold_largest _ _ first]
    have ei : val_main_cst (F := Ideal) (Shape.Idx.first h_S_) = (⊥ : EReal) := neg_inf
    rw [ei]
    refine Finset.fold_congr fun i _ => ?_
    rw [← ec i]
    show val_main_v3 x w _ = _
    congr 1
    funext d
    fin_cases d <;> rfl
  have eo : ∀ i : Fin 8, val_main_v10 x w (ix4 0 i y q)
      = if decide (cosine a b gx gy i = cosine a b gx gy (wedge gx gy)) = true then BitVec.ofNat 32 i.val else 8#32 := by
    intro i
    have e : val_main_v10 x w (ix4 0 i y q)
        = if val_main_v3 x w (ix4 0 i y q) = val_main_v5 x w (ix3 0 y q) then BitVec.ofNat 32 i.val else 8#32 := by
      pointwise [val_main_v10, val_main_v9, val_main_v8, val_main_v7, val_main_v6, val_main_call0_v1, val_main_call0_v0, val_main_c]
      rfl
    rw [e, ec, em]
    simp only [EReal.coe_eq_coe_iff, decide_eq_true_eq]
  rw [ex, ey]
  unfold val_main_v11
  rw [Host.reduce_eq_fold_single (a := 1) _ _ _ _ (by decide)]
  have ei : val_main_c_0 (F := Ideal) (Shape.Idx.first h_S_) = 2147483647#32 := rfl
  rw [ei, ← fold_first (fun i => decide (cosine a b gx gy i = cosine a b gx gy (wedge gx gy))) (wedge gx gy) (by simp)
    (fun i hi => by simp [((first i).2 hi).ne])]
  refine Finset.fold_congr fun i _ => ?_
  refine Eq.trans (b := val_main_v10 x w (ix4 0 i y q)) ?_ (eo i)
  refine congrArg (val_main_v10 x w) ?_
  funext d
  fin_cases d <;> rfl

/-- The histogram of one pixel. -/
theorem histogram_at (c : Fin 8) (y q : Fin 2048) : val_main_v23 x w (ix4 0 c y q) = vote c (x (ix4 0 0 y q)) (x (ix4 0 1 y q)) := by
  have e : val_main_v23 x w (ix4 0 c y q)
      = FloatOps.uitofp (F := Ideal) .f32 (IntOp.cmpi .eq (val_main_v11 x w (ix3 0 y q)) (BitVec.ofNat 32 c.val)) *
        Ideal.sqrt (val_main_v2 x w (ix4 0 8 y q) * val_main_v2 x w (ix4 0 8 y q) +
          val_main_v2 x w (ix4 0 9 y q) * val_main_v2 x w (ix4 0 9 y q)) := by
    pointwise [val_main_v23, val_main_v22, val_main_v21, val_main_v20, val_main_v19, val_main_v18, val_main_v17, val_main_v16,
      val_main_v15, val_main_v14, val_main_v13, val_main_v12, val_main_call1_v4, val_main_call1_v3, val_main_call1_v2,
      val_main_call1_v1, val_main_call1_v0, val_main_v4]
  obtain ⟨⟨a0, a1⟩, b0, b1⟩ := H.axes
  rw [e, orientation_at H, word_eq, conv_at, conv_at, a0, a1, b0, b1]
  simp only [mul_one, mul_zero, add_zero, zero_add]
  unfold vote
  split_ifs
  · exact one_mul _
  · exact zero_mul _

/-- The padded histogram, at a padded row and column. -/
theorem padded_at (c : Fin 8) (y q : Fin 2052) : val_main_v24 x w (ix4 0 c y q) = vote c (padded x 0 y.val q.val) (padded x 1 y.val q.val) := by
  have e : val_main_v24 x w (ix4 0 c y q)
      = if h : (2 ≤ y.val ∧ y.val - 2 < 2048) ∧ 2 ≤ q.val ∧ q.val - 2 < 2048 then
          val_main_v23 x w (ix4 0 c ⟨y.val - 2, by omega⟩ ⟨q.val - 2, by omega⟩) else FloatOps.sitofp (F := Ideal) .f32 0#32 := by
    pointwise [val_main_v24, val_main_call2_v0, val_main_c_1]
  rw [e]
  unfold padded
  by_cases h : (2 ≤ y.val ∧ y.val < 2050) ∧ 2 ≤ q.val ∧ q.val < 2050
  · rw [dif_pos (by omega), dif_pos h, dif_pos h, histogram_at H]
  · rw [dif_neg (by omega), dif_neg h, dif_neg h, vote_zero]
    show (((0#32 : BitVec 32).toInt : ℝ) : EReal) = 0
    norm_num

omit H in
/-- The sixteen shifts, stacked. -/
theorem shift_at (d e : Fin 4) (c : Fin 8) (y q : Fin 2049) : val_main_v42 x w (ix4 ⟨e.val + 4 * d.val, by omega⟩ c y q)
    = val_main_v24 x w (ix4 0 c ⟨y.val + d.val, by omega⟩ ⟨q.val + e.val, by omega⟩) := by
  fin_cases d <;> fin_cases e
  all_goals
    pointwise [val_main_v42, val_main_v25, val_main_v26, val_main_v27, val_main_v28, val_main_v29, val_main_v30, val_main_v31, val_main_v32, val_main_v33, val_main_v34, val_main_v35, val_main_v36, val_main_v37, val_main_v38, val_main_v39, val_main_v40]
  all_goals simp only [Nat.add_comm]

/-- The reference's result: the votes of the sixteen gradients around each place. -/
theorem reference_at (c : Fin 8) (y q : Fin 2049) : val_main_v44 x w v (ix4 0 c y q)
    = ∑ e : Fin 4, ∑ d : Fin 4, vote c (padded x 0 (y.val + d.val) (q.val + e.val)) (padded x 1 (y.val + d.val) (q.val + e.val)) := by
  have h : val_main_v44 x w v (ix4 0 c y q)
      = ∑ k : Fin 16, v (ix4 c 0 ⟨k.val / 4, by omega⟩ ⟨k.val % 4, by omega⟩) * val_main_v42 x w (ix4 k c y q) := by
    pointwise [val_main_v44, val_main_v43, val_main_v41]
  rw [h, Finset.sum_congr rfl fun k _ => by rw [H.ones, one_mul], Finset.sum_comm]
  have h' : (∑ k : Fin 16, val_main_v42 x w (ix4 k c y q)) = ∑ p : Fin 4 × Fin 4, val_main_v42 x w (ix4 (finProdFinEquiv p) c y q) :=
    (Equiv.sum_comp (finProdFinEquiv (m := 4) (n := 4)) fun k => val_main_v42 x w (ix4 k c y q)).symm
  refine h'.trans ?_
  rw [Fintype.sum_prod_type]
  refine Finset.sum_congr rfl fun d _ => Finset.sum_congr rfl fun e _ => ?_
  exact (shift_at d e c y q).trans (padded_at H c _ _)

end Cert.ReferenceIdeal.Read
end
-- ==== Proof.Inputs.lean ====
module

public import proofs.«01_k».proof.Proof.Reference
public import proofs.«01_k».proof.Proof.Gen.Pre_sift_inputs

/-! The precondition, read as facts about the three inputs. -/

@[expose] public section

noncomputable section

namespace Cert.Pre_sift_inputs

open Cert.Pre_sift_inputs.Gen Cert.Sift
open Idealize.ShloMosaic Idealize.ShloMosaic.TcCoe Idealize.ShloMosaic.Pointwise

/-- Both bits are one exactly when their conjunction is. -/
theorem both (a b : BitVec 1) : IntOp.andi a b = 1#1 ↔ a = 1#1 ∧ b = 1#1 := by revert a b; decide
/-- One of the bits is one exactly when their disjunction is. -/
theorem either (a b : BitVec 1) : IntOp.ori a b = 1#1 ↔ a = 1#1 ∨ b = 1#1 := by revert a b; decide
/-- A truth value's bit is one exactly when it holds. -/
theorem holds (p : Prop) [Decidable p] : BitVec.ofBool (decide p) = 1#1 ↔ p := by by_cases h : p <;> simp [h]

/-- A conjunction over a set is one only if every member is. -/
theorem every {ι : Type} (s : Finset ι) (f : ι → BitVec 1) : s.fold IntOp.andi 1#1 f = 1#1 → ∀ i ∈ s, f i = 1#1 := by
  classical
  induction s using Finset.induction_on with
  | empty => exact fun _ i hi => absurd hi (Finset.notMem_empty i)
  | insert a s ha ih =>
    intro h i hi
    rw [Finset.fold_insert ha, both] at h
    rcases Finset.mem_insert.1 hi with rfl | hi
    · exact h.1
    · exact ih h.2 i hi

/-- The bits of infinity. -/
theorem pos_inf : Ideal.ofBits .f32 2139095040#32 = (⊤ : EReal) := by
  simp [Ideal.ofBits, Ideal.ieee]

/-- An extended real whose absolute value is below infinity is a real. -/
theorem finite_of (r : EReal) (h : FloatOps.absf (F := Ideal) (φ := .f32) r < (⊤ : EReal)) : ∃ s : ℝ, r = (s : EReal) := by
  have h' : max r (-r) < ⊤ := h
  induction r with
  | bot => simp at h'
  | coe s => exact ⟨s, rfl⟩
  | top => simp at h'

/-- The opposite of an extended real that is a real. -/
theorem neg_real {e : EReal} {r : ℝ} (h : e = (r : EReal)) : -e = ((-r : ℝ) : EReal) := by rw [h, EReal.coe_neg]

/-- The product of two real vectors, over the extended reals. -/
theorem product {d e : EReal} {u v : ℝ} (gx gy : ℝ) (hd : d = (u : EReal)) (he : e = (v : EReal)) :
    (gx : EReal) * d + (gy : EReal) * e = ((gx * u + gy * v : ℝ) : EReal) := by
  rw [hd, he, EReal.coe_add, EReal.coe_mul, EReal.coe_mul]

/-- Inputs that meet the precondition are ready for the reference. -/
theorem ready_of (x : FVec Ideal S1x2x2048x2048 .f32) (w : FVec Ideal S10x2x1x1 .f32) (v : FVec Ideal S8x1x4x4 .f32)
    (h : fn x w v = fun _ => 1#1) : Cert.ReferenceIdeal.Read.Ready x w v := by
  have h0 : fn x w v ix0 = 1#1 := congrFun h ix0
  clear h
  revert h0
  pointwise [fn, fn_part1, fn_part2, fn_part3, fn_part4, fn_part5]
  simp only [both, holds, pos_inf]
  rintro ⟨⟨⟨⟨⟨⟨⟨⟨⟨⟨⟨⟨⟨⟨⟨⟨⟨⟨⟨⟨⟨⟨⟨hb, ha⟩, ht⟩, w10⟩, w11⟩, w20⟩, w21⟩, w30⟩, w31⟩, w40⟩, w41⟩, w50⟩, w51⟩, w60⟩, w61⟩, w70⟩, w71⟩,
    w80⟩, w81⟩, w90⟩, w91⟩, hv⟩, hx⟩, hs⟩
  have fa : ∃ a : ℝ, w (ix4 0 0 0 0) = (a : EReal) := ⟨_, (EReal.coe_toReal ht.ne (hb.trans ha).ne_bot).symm⟩
  have fb : ∃ b : ℝ, w (ix4 0 1 0 0) = (b : EReal) := ⟨_, (EReal.coe_toReal (ha.trans ht).ne hb.ne_bot).symm⟩
  obtain ⟨a, ea⟩ := fa
  obtain ⟨b, eb⟩ := fb
  rw [eb] at hb ha
  rw [ea] at ha
  refine ⟨fun ch y q => ?_, fun y q => ?_, ⟨a, b, EReal.coe_pos.1 hb, EReal.coe_lt_coe_iff.1 ha, fun i gx gy => ?_⟩,
    ⟨⟨w80, w81⟩, w90, w91⟩, fun c i j => ?_⟩
  · have k := every _ _ hx (ix4 0 ch y q) (by simp; exact Subsingleton.elim _ _)
    exact finite_of _ ((holds _).1 k)
  · have k := every _ _ hs (0, y, q) (by simp only [Finset.mem_univ])
    rw [either] at k
    exact k.imp (fun e => (holds _).1 e) (fun e => (holds _).1 e)
  · fin_cases i
    · exact product gx gy (ea) (eb)
    · exact product gx gy (w10.trans eb) (w11.trans ea)
    · exact product gx gy (w20.trans (neg_real eb)) (w21.trans ea)
    · exact product gx gy (w30.trans (neg_real ea)) (w31.trans eb)
    · exact product gx gy (w40.trans (neg_real ea)) (w41.trans (neg_real eb))
    · exact product gx gy (w50.trans (neg_real eb)) (w51.trans (neg_real ea))
    · exact product gx gy (w60.trans eb) (w61.trans (neg_real ea))
    · exact product gx gy (w70.trans ea) (w71.trans (neg_real eb))
  · have k := every _ _ hv (ix4 c 0 i j) (by simp; exact Subsingleton.elim _ _)
    exact (holds _).1 k

end Cert.Pre_sift_inputs
-- ==== Proof.Equation.lean ====
module

public import proofs.«01_k».proof.Defs
public import proofs.«01_k».proof.Proof.Frames
public import proofs.«01_k».proof.Proof.Result
public import proofs.«01_k».proof.Proof.Inputs

/-! The kernel's result and the reference's are one array. -/

@[expose] public section

noncomputable section

namespace Cert.Proof

open Idealize.ShloMosaic Idealize.ShloMosaic.TcCoe Idealize.ShloMosaic.Pointwise Idealize.SL.Sem
open Cert.KernelIdeal.Run (sift answer)

/-- On inputs that are ready the reference's result holds the histograms of the image. -/
theorem reference_sift (x : FVec Ideal Cert.ReferenceIdeal.S1x2x2048x2048 .f32) (w : FVec Ideal Cert.ReferenceIdeal.S10x2x1x1 .f32)
    (v : FVec Ideal Cert.ReferenceIdeal.S8x1x4x4 .f32) (H : Cert.ReferenceIdeal.Read.Ready x w v) :
    Cert.ReferenceIdeal.Read.val_main_v44 (F := Ideal) x w v
      = (fun i => sift x (i 1) (i 2).val (i 3).val : FVec Ideal Cert.ReferenceIdeal.S1x8x2049x2049 .f32) := by
  funext i
  obtain ⟨c, y, q, rfl⟩ : ∃ (c : Fin 8) (y q : Fin 2049), i = ix4 0 c y q :=
    ⟨i 1, i 2, i 3, by funext a; fin_cases a <;> first | rfl | exact Subsingleton.elim (α := Fin 1) _ _⟩
  exact Cert.ReferenceIdeal.Read.reference_at H c y q

/-- On inputs that meet the precondition the kernel and the reference end with the same result. -/
theorem same_result : Cert.algebraic_KernelIdeal_ReferenceIdeal_pre_sift_inputs := fun m g m' g' hpre hargs =>
  ⟨fun c => answer m c,
    (θ_run Cert.KernelIdeal.defs _ _).mono
      (fun _ h c => ⟨(h.1 c).1.trans (Cert.KernelIdeal.Run.result_eq m c), (h.1 c).2.1, (h.1 c).2.2.1, (h.1 c).2.2.2⟩)
      (Cert.KernelIdeal.Run.run_post m g),
    (θ_run Cert.ReferenceIdeal.defs _ _).mono
      (fun _ h c => ⟨(h c).1.trans ((Cert.ReferenceIdeal.Read.val_main_v44_eq m' c).trans (by
          rw [(hargs c).1, (hargs c).2.1, (hargs c).2.2]
          exact reference_sift _ _ _ (Cert.Pre_sift_inputs.ready_of _ _ _ (hpre c)))), (h c).2.1, (h c).2.2.1, (h c).2.2.2⟩)
      (Cert.ReferenceIdeal.Value.run (F := Ideal) m' g')⟩

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Equation
public import proofs.«01_k».proof.Proof.Gen.Pre_sift_inputs
public import Idealize.ShloMosaic.Adequacy
public import Idealize.ShloMosaic.Init

@[expose] public section

noncomputable section

namespace Cert.Proof

open Idealize.ShloMosaic Idealize.SL.Sem Cert.Kernel

/-- Every program of the certificate runs, its arguments unchanged; the idealization changes no operation; and on inputs that
meet the precondition the kernel's result is the reference's. -/
theorem claim : Cert.Claim := ⟨Cert.Kernel.Gen.facts, Cert.KernelIdeal.Gen.facts, Cert.ReferenceIdeal.Gen.facts, Cert.Pre_sift_inputs.Gen.facts,
  frame_kernel, frame_kernelIdeal, fun m g _ => frame_kernelIdeal m g trivial,
  frame_referenceIdeal, fun m g _ => frame_referenceIdeal m g trivial, trivial, same_result⟩

end Cert.Proof

end
